-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelMerge (m : (ℓ : Loc Cert.KernelMerge.nD Cert.KernelMerge.τ Cert.KernelMerge.sig) → Buf (Elt Bits) ℓ) : Prop :=
  True

def Pre_KernelMergeIdeal (m : (ℓ : Loc Cert.KernelMergeIdeal.nD Cert.KernelMergeIdeal.τ Cert.KernelMergeIdeal.sig) → Buf (Elt Ideal) ℓ) : Prop :=
  True

def Pre_ReferenceMergeIdeal (m : (ℓ : Loc Cert.ReferenceMergeIdeal.nD Cert.ReferenceMergeIdeal.τ Cert.ReferenceMergeIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelMerge [hKernelMerge : Cert.KernelMerge.Facts] : Prop :=
  ∀ (m : (ℓ : Loc Cert.KernelMerge.nD Cert.KernelMerge.τ Cert.KernelMerge.sig) → Buf (Elt Bits) ℓ) (g : Dev Cert.KernelMerge.nD → PrngReg), Pre_KernelMerge m →
    θ_run (Cert.KernelMerge.defs (F := Bits)) (onTc (τ := Cert.KernelMerge.τ) (Cert.KernelMerge.main (F := Bits))) ⟨m, fun _ => 0, g⟩ (fun r => (∀ c : Dev Cert.KernelMerge.nD,
      r.2.mem ((c.tc : Thread Cert.KernelMerge.nD Cert.KernelMerge.τ).loc Cert.KernelMerge.main_arg0) = m ((c.tc : Thread Cert.KernelMerge.nD Cert.KernelMerge.τ).loc Cert.KernelMerge.main_arg0)
      ∧ r.2.mem ((c.tc : Thread Cert.KernelMerge.nD Cert.KernelMerge.τ).loc Cert.KernelMerge.main_arg1) = m ((c.tc : Thread Cert.KernelMerge.nD Cert.KernelMerge.τ).loc Cert.KernelMerge.main_arg1)
      ∧ r.2.mem ((c.tc : Thread Cert.KernelMerge.nD Cert.KernelMerge.τ).loc Cert.KernelMerge.main_arg2) = m ((c.tc : Thread Cert.KernelMerge.nD Cert.KernelMerge.τ).loc Cert.KernelMerge.main_arg2)
      ∧ r.2.mem ((c.tc : Thread Cert.KernelMerge.nD Cert.KernelMerge.τ).loc Cert.KernelMerge.main_arg3) = m ((c.tc : Thread Cert.KernelMerge.nD Cert.KernelMerge.τ).loc Cert.KernelMerge.main_arg3)
      ∧ r.2.mem ((c.tc : Thread Cert.KernelMerge.nD Cert.KernelMerge.τ).loc Cert.KernelMerge.main_arg4) = m ((c.tc : Thread Cert.KernelMerge.nD Cert.KernelMerge.τ).loc Cert.KernelMerge.main_arg4)
      ∧ r.2.mem ((c.tc : Thread Cert.KernelMerge.nD Cert.KernelMerge.τ).loc Cert.KernelMerge.main_arg5) = m ((c.tc : Thread Cert.KernelMerge.nD Cert.KernelMerge.τ).loc Cert.KernelMerge.main_arg5)
      ∧ r.2.mem ((c.tc : Thread Cert.KernelMerge.nD Cert.KernelMerge.τ).loc Cert.KernelMerge.main_arg6) = m ((c.tc : Thread Cert.KernelMerge.nD Cert.KernelMerge.τ).loc Cert.KernelMerge.main_arg6)
      ∧ r.2.mem ((c.tc : Thread Cert.KernelMerge.nD Cert.KernelMerge.τ).loc Cert.KernelMerge.main_arg7) = m ((c.tc : Thread Cert.KernelMerge.nD Cert.KernelMerge.τ).loc Cert.KernelMerge.main_arg7)
      ∧ r.2.mem ((c.tc : Thread Cert.KernelMerge.nD Cert.KernelMerge.τ).loc Cert.KernelMerge.main_arg8) = m ((c.tc : Thread Cert.KernelMerge.nD Cert.KernelMerge.τ).loc Cert.KernelMerge.main_arg8)
      ∧ r.2.mem ((c.tc : Thread Cert.KernelMerge.nD Cert.KernelMerge.τ).loc Cert.KernelMerge.main_arg9) = m ((c.tc : Thread Cert.KernelMerge.nD Cert.KernelMerge.τ).loc Cert.KernelMerge.main_arg9))
      ∧ r.2.sem = fun _ => 0)

def quiescent_KernelMergeIdeal [hKernelMergeIdeal : Cert.KernelMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg), Pre_KernelMergeIdeal m →
    θ_run (Cert.KernelMergeIdeal.defs (F := Ideal)) (onTc (τ := Cert.KernelMergeIdeal.τ) (Cert.KernelMergeIdeal.main (F := Ideal))) ⟨m, fun _ => 0, g⟩ (fun r => (∀ c : Dev Cert.KernelMergeIdeal.nD,
      r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
      ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
      ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
      ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
      ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
      ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
      ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
      ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
      ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
      ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9))
      ∧ r.2.sem = fun _ => 0)

def quiescent_ReferenceMergeIdeal [hReferenceMergeIdeal : Cert.ReferenceMergeIdeal.Facts] : Prop :=
  ∀ (m : (ℓ : Loc Cert.ReferenceMergeIdeal.nD Cert.ReferenceMergeIdeal.τ Cert.ReferenceMergeIdeal.sig) → Buf (Elt Ideal) ℓ) (g : Dev Cert.ReferenceMergeIdeal.nD → PrngReg), Pre_ReferenceMergeIdeal m →
    θ_run (Cert.ReferenceMergeIdeal.defs (F := Ideal)) (onTc (τ := Cert.ReferenceMergeIdeal.τ) (Cert.ReferenceMergeIdeal.main (F := Ideal))) ⟨m, fun _ => 0, g⟩ (fun r => (∀ c : Dev Cert.ReferenceMergeIdeal.nD,
      r.2.mem ((c.tc : Thread Cert.ReferenceMergeIdeal.nD Cert.ReferenceMergeIdeal.τ).loc Cert.ReferenceMergeIdeal.main_arg0) = m ((c.tc : Thread Cert.ReferenceMergeIdeal.nD Cert.ReferenceMergeIdeal.τ).loc Cert.ReferenceMergeIdeal.main_arg0)
      ∧ r.2.mem ((c.tc : Thread Cert.ReferenceMergeIdeal.nD Cert.ReferenceMergeIdeal.τ).loc Cert.ReferenceMergeIdeal.main_arg1) = m ((c.tc : Thread Cert.ReferenceMergeIdeal.nD Cert.ReferenceMergeIdeal.τ).loc Cert.ReferenceMergeIdeal.main_arg1)
      ∧ r.2.mem ((c.tc : Thread Cert.ReferenceMergeIdeal.nD Cert.ReferenceMergeIdeal.τ).loc Cert.ReferenceMergeIdeal.main_arg2) = m ((c.tc : Thread Cert.ReferenceMergeIdeal.nD Cert.ReferenceMergeIdeal.τ).loc Cert.ReferenceMergeIdeal.main_arg2)
      ∧ r.2.mem ((c.tc : Thread Cert.ReferenceMergeIdeal.nD Cert.ReferenceMergeIdeal.τ).loc Cert.ReferenceMergeIdeal.main_arg3) = m ((c.tc : Thread Cert.ReferenceMergeIdeal.nD Cert.ReferenceMergeIdeal.τ).loc Cert.ReferenceMergeIdeal.main_arg3)
      ∧ r.2.mem ((c.tc : Thread Cert.ReferenceMergeIdeal.nD Cert.ReferenceMergeIdeal.τ).loc Cert.ReferenceMergeIdeal.main_arg4) = m ((c.tc : Thread Cert.ReferenceMergeIdeal.nD Cert.ReferenceMergeIdeal.τ).loc Cert.ReferenceMergeIdeal.main_arg4)
      ∧ r.2.mem ((c.tc : Thread Cert.ReferenceMergeIdeal.nD Cert.ReferenceMergeIdeal.τ).loc Cert.ReferenceMergeIdeal.main_arg5) = m ((c.tc : Thread Cert.ReferenceMergeIdeal.nD Cert.ReferenceMergeIdeal.τ).loc Cert.ReferenceMergeIdeal.main_arg5)
      ∧ r.2.mem ((c.tc : Thread Cert.ReferenceMergeIdeal.nD Cert.ReferenceMergeIdeal.τ).loc Cert.ReferenceMergeIdeal.main_arg6) = m ((c.tc : Thread Cert.ReferenceMergeIdeal.nD Cert.ReferenceMergeIdeal.τ).loc Cert.ReferenceMergeIdeal.main_arg6)
      ∧ r.2.mem ((c.tc : Thread Cert.ReferenceMergeIdeal.nD Cert.ReferenceMergeIdeal.τ).loc Cert.ReferenceMergeIdeal.main_arg7) = m ((c.tc : Thread Cert.ReferenceMergeIdeal.nD Cert.ReferenceMergeIdeal.τ).loc Cert.ReferenceMergeIdeal.main_arg7)
      ∧ r.2.mem ((c.tc : Thread Cert.ReferenceMergeIdeal.nD Cert.ReferenceMergeIdeal.τ).loc Cert.ReferenceMergeIdeal.main_arg8) = m ((c.tc : Thread Cert.ReferenceMergeIdeal.nD Cert.ReferenceMergeIdeal.τ).loc Cert.ReferenceMergeIdeal.main_arg8)
      ∧ r.2.mem ((c.tc : Thread Cert.ReferenceMergeIdeal.nD Cert.ReferenceMergeIdeal.τ).loc Cert.ReferenceMergeIdeal.main_arg9) = m ((c.tc : Thread Cert.ReferenceMergeIdeal.nD Cert.ReferenceMergeIdeal.τ).loc Cert.ReferenceMergeIdeal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v0)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v3) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelMerge_KernelMergeIdeal : Prop :=
  True

def algebraic_KernelMergeIdeal_ReferenceMergeIdeal [hKernelMergeIdeal : Cert.KernelMergeIdeal.Facts] [hReferenceMergeIdeal : Cert.ReferenceMergeIdeal.Facts] : Prop :=
  ∀ (m : (ℓ : Loc Cert.KernelMergeIdeal.nD Cert.KernelMergeIdeal.τ Cert.KernelMergeIdeal.sig) → Buf (Elt Ideal) ℓ) (g : Dev Cert.KernelMergeIdeal.nD → PrngReg)
    (m' : (ℓ : Loc Cert.ReferenceMergeIdeal.nD Cert.ReferenceMergeIdeal.τ Cert.ReferenceMergeIdeal.sig) → Buf (Elt Ideal) ℓ) (g' : Dev Cert.ReferenceMergeIdeal.nD → PrngReg), Pre_KernelMergeIdeal m →
    (∀ c : Dev Cert.KernelMergeIdeal.nD,
      m' ((c.tc : Thread Cert.ReferenceMergeIdeal.nD Cert.ReferenceMergeIdeal.τ).loc Cert.ReferenceMergeIdeal.main_arg0) = m ((c.tc : Thread Cert.KernelMergeIdeal.nD Cert.KernelMergeIdeal.τ).loc Cert.KernelMergeIdeal.main_arg0)
      ∧ m' ((c.tc : Thread Cert.ReferenceMergeIdeal.nD Cert.ReferenceMergeIdeal.τ).loc Cert.ReferenceMergeIdeal.main_arg1) = m ((c.tc : Thread Cert.KernelMergeIdeal.nD Cert.KernelMergeIdeal.τ).loc Cert.KernelMergeIdeal.main_arg1)
      ∧ m' ((c.tc : Thread Cert.ReferenceMergeIdeal.nD Cert.ReferenceMergeIdeal.τ).loc Cert.ReferenceMergeIdeal.main_arg2) = m ((c.tc : Thread Cert.KernelMergeIdeal.nD Cert.KernelMergeIdeal.τ).loc Cert.KernelMergeIdeal.main_arg2)
      ∧ m' ((c.tc : Thread Cert.ReferenceMergeIdeal.nD Cert.ReferenceMergeIdeal.τ).loc Cert.ReferenceMergeIdeal.main_arg3) = m ((c.tc : Thread Cert.KernelMergeIdeal.nD Cert.KernelMergeIdeal.τ).loc Cert.KernelMergeIdeal.main_arg3)
      ∧ m' ((c.tc : Thread Cert.ReferenceMergeIdeal.nD Cert.ReferenceMergeIdeal.τ).loc Cert.ReferenceMergeIdeal.main_arg4) = m ((c.tc : Thread Cert.KernelMergeIdeal.nD Cert.KernelMergeIdeal.τ).loc Cert.KernelMergeIdeal.main_arg4)
      ∧ m' ((c.tc : Thread Cert.ReferenceMergeIdeal.nD Cert.ReferenceMergeIdeal.τ).loc Cert.ReferenceMergeIdeal.main_arg5) = m ((c.tc : Thread Cert.KernelMergeIdeal.nD Cert.KernelMergeIdeal.τ).loc Cert.KernelMergeIdeal.main_arg5)
      ∧ m' ((c.tc : Thread Cert.ReferenceMergeIdeal.nD Cert.ReferenceMergeIdeal.τ).loc Cert.ReferenceMergeIdeal.main_arg6) = m ((c.tc : Thread Cert.KernelMergeIdeal.nD Cert.KernelMergeIdeal.τ).loc Cert.KernelMergeIdeal.main_arg6)
      ∧ m' ((c.tc : Thread Cert.ReferenceMergeIdeal.nD Cert.ReferenceMergeIdeal.τ).loc Cert.ReferenceMergeIdeal.main_arg7) = m ((c.tc : Thread Cert.KernelMergeIdeal.nD Cert.KernelMergeIdeal.τ).loc Cert.KernelMergeIdeal.main_arg7)
      ∧ m' ((c.tc : Thread Cert.ReferenceMergeIdeal.nD Cert.ReferenceMergeIdeal.τ).loc Cert.ReferenceMergeIdeal.main_arg8) = m ((c.tc : Thread Cert.KernelMergeIdeal.nD Cert.KernelMergeIdeal.τ).loc Cert.KernelMergeIdeal.main_arg8)
      ∧ m' ((c.tc : Thread Cert.ReferenceMergeIdeal.nD Cert.ReferenceMergeIdeal.τ).loc Cert.ReferenceMergeIdeal.main_arg9) = m ((c.tc : Thread Cert.KernelMergeIdeal.nD Cert.KernelMergeIdeal.τ).loc Cert.KernelMergeIdeal.main_arg9)) →
    ∃ (v0 : (c : Dev Cert.KernelMergeIdeal.nD) → Buf (Elt Ideal) ((c.tc : Thread Cert.KernelMergeIdeal.nD Cert.KernelMergeIdeal.τ).loc Cert.KernelMergeIdeal.main_v4_0)) (v1 : (c : Dev Cert.KernelMergeIdeal.nD) → Buf (Elt Ideal) ((c.tc : Thread Cert.KernelMergeIdeal.nD Cert.KernelMergeIdeal.τ).loc Cert.KernelMergeIdeal.main_v4_1)),
      θ_run (Cert.KernelMergeIdeal.defs (F := Ideal)) (onTc (τ := Cert.KernelMergeIdeal.τ) (Cert.KernelMergeIdeal.main (F := Ideal))) ⟨m, fun _ => 0, g⟩ (fun r => ∀ c : Dev Cert.KernelMergeIdeal.nD,
          r.2.mem ((c.tc : Thread Cert.KernelMergeIdeal.nD Cert.KernelMergeIdeal.τ).loc Cert.KernelMergeIdeal.main_v4_0) = v0 c
          ∧ r.2.mem ((c.tc : Thread Cert.KernelMergeIdeal.nD Cert.KernelMergeIdeal.τ).loc Cert.KernelMergeIdeal.main_v4_1) = v1 c
          ∧ r.2.mem ((c.tc : Thread Cert.KernelMergeIdeal.nD Cert.KernelMergeIdeal.τ).loc Cert.KernelMergeIdeal.main_arg0) = m ((c.tc : Thread Cert.KernelMergeIdeal.nD Cert.KernelMergeIdeal.τ).loc Cert.KernelMergeIdeal.main_arg0)
          ∧ r.2.mem ((c.tc : Thread Cert.KernelMergeIdeal.nD Cert.KernelMergeIdeal.τ).loc Cert.KernelMergeIdeal.main_arg1) = m ((c.tc : Thread Cert.KernelMergeIdeal.nD Cert.KernelMergeIdeal.τ).loc Cert.KernelMergeIdeal.main_arg1)
          ∧ r.2.mem ((c.tc : Thread Cert.KernelMergeIdeal.nD Cert.KernelMergeIdeal.τ).loc Cert.KernelMergeIdeal.main_arg2) = m ((c.tc : Thread Cert.KernelMergeIdeal.nD Cert.KernelMergeIdeal.τ).loc Cert.KernelMergeIdeal.main_arg2)
          ∧ r.2.mem ((c.tc : Thread Cert.KernelMergeIdeal.nD Cert.KernelMergeIdeal.τ).loc Cert.KernelMergeIdeal.main_arg3) = m ((c.tc : Thread Cert.KernelMergeIdeal.nD Cert.KernelMergeIdeal.τ).loc Cert.KernelMergeIdeal.main_arg3)
          ∧ r.2.mem ((c.tc : Thread Cert.KernelMergeIdeal.nD Cert.KernelMergeIdeal.τ).loc Cert.KernelMergeIdeal.main_arg4) = m ((c.tc : Thread Cert.KernelMergeIdeal.nD Cert.KernelMergeIdeal.τ).loc Cert.KernelMergeIdeal.main_arg4)
          ∧ r.2.mem ((c.tc : Thread Cert.KernelMergeIdeal.nD Cert.KernelMergeIdeal.τ).loc Cert.KernelMergeIdeal.main_arg5) = m ((c.tc : Thread Cert.KernelMergeIdeal.nD Cert.KernelMergeIdeal.τ).loc Cert.KernelMergeIdeal.main_arg5)
          ∧ r.2.mem ((c.tc : Thread Cert.KernelMergeIdeal.nD Cert.KernelMergeIdeal.τ).loc Cert.KernelMergeIdeal.main_arg6) = m ((c.tc : Thread Cert.KernelMergeIdeal.nD Cert.KernelMergeIdeal.τ).loc Cert.KernelMergeIdeal.main_arg6)
          ∧ r.2.mem ((c.tc : Thread Cert.KernelMergeIdeal.nD Cert.KernelMergeIdeal.τ).loc Cert.KernelMergeIdeal.main_arg7) = m ((c.tc : Thread Cert.KernelMergeIdeal.nD Cert.KernelMergeIdeal.τ).loc Cert.KernelMergeIdeal.main_arg7)
          ∧ r.2.mem ((c.tc : Thread Cert.KernelMergeIdeal.nD Cert.KernelMergeIdeal.τ).loc Cert.KernelMergeIdeal.main_arg8) = m ((c.tc : Thread Cert.KernelMergeIdeal.nD Cert.KernelMergeIdeal.τ).loc Cert.KernelMergeIdeal.main_arg8)
          ∧ r.2.mem ((c.tc : Thread Cert.KernelMergeIdeal.nD Cert.KernelMergeIdeal.τ).loc Cert.KernelMergeIdeal.main_arg9) = m ((c.tc : Thread Cert.KernelMergeIdeal.nD Cert.KernelMergeIdeal.τ).loc Cert.KernelMergeIdeal.main_arg9))
      ∧ θ_run (Cert.ReferenceMergeIdeal.defs (F := Ideal)) (onTc (τ := Cert.ReferenceMergeIdeal.τ) (Cert.ReferenceMergeIdeal.main (F := Ideal))) ⟨m', fun _ => 0, g'⟩ (fun r => ∀ c : Dev Cert.ReferenceMergeIdeal.nD,
          r.2.mem ((c.tc : Thread Cert.ReferenceMergeIdeal.nD Cert.ReferenceMergeIdeal.τ).loc Cert.ReferenceMergeIdeal.main_v50) = v0 c
          ∧ r.2.mem ((c.tc : Thread Cert.ReferenceMergeIdeal.nD Cert.ReferenceMergeIdeal.τ).loc Cert.ReferenceMergeIdeal.main_v51) = v1 c
          ∧ r.2.mem ((c.tc : Thread Cert.ReferenceMergeIdeal.nD Cert.ReferenceMergeIdeal.τ).loc Cert.ReferenceMergeIdeal.main_arg0) = m' ((c.tc : Thread Cert.ReferenceMergeIdeal.nD Cert.ReferenceMergeIdeal.τ).loc Cert.ReferenceMergeIdeal.main_arg0)
          ∧ r.2.mem ((c.tc : Thread Cert.ReferenceMergeIdeal.nD Cert.ReferenceMergeIdeal.τ).loc Cert.ReferenceMergeIdeal.main_arg1) = m' ((c.tc : Thread Cert.ReferenceMergeIdeal.nD Cert.ReferenceMergeIdeal.τ).loc Cert.ReferenceMergeIdeal.main_arg1)
          ∧ r.2.mem ((c.tc : Thread Cert.ReferenceMergeIdeal.nD Cert.ReferenceMergeIdeal.τ).loc Cert.ReferenceMergeIdeal.main_arg2) = m' ((c.tc : Thread Cert.ReferenceMergeIdeal.nD Cert.ReferenceMergeIdeal.τ).loc Cert.ReferenceMergeIdeal.main_arg2)
          ∧ r.2.mem ((c.tc : Thread Cert.ReferenceMergeIdeal.nD Cert.ReferenceMergeIdeal.τ).loc Cert.ReferenceMergeIdeal.main_arg3) = m' ((c.tc : Thread Cert.ReferenceMergeIdeal.nD Cert.ReferenceMergeIdeal.τ).loc Cert.ReferenceMergeIdeal.main_arg3)
          ∧ r.2.mem ((c.tc : Thread Cert.ReferenceMergeIdeal.nD Cert.ReferenceMergeIdeal.τ).loc Cert.ReferenceMergeIdeal.main_arg4) = m' ((c.tc : Thread Cert.ReferenceMergeIdeal.nD Cert.ReferenceMergeIdeal.τ).loc Cert.ReferenceMergeIdeal.main_arg4)
          ∧ r.2.mem ((c.tc : Thread Cert.ReferenceMergeIdeal.nD Cert.ReferenceMergeIdeal.τ).loc Cert.ReferenceMergeIdeal.main_arg5) = m' ((c.tc : Thread Cert.ReferenceMergeIdeal.nD Cert.ReferenceMergeIdeal.τ).loc Cert.ReferenceMergeIdeal.main_arg5)
          ∧ r.2.mem ((c.tc : Thread Cert.ReferenceMergeIdeal.nD Cert.ReferenceMergeIdeal.τ).loc Cert.ReferenceMergeIdeal.main_arg6) = m' ((c.tc : Thread Cert.ReferenceMergeIdeal.nD Cert.ReferenceMergeIdeal.τ).loc Cert.ReferenceMergeIdeal.main_arg6)
          ∧ r.2.mem ((c.tc : Thread Cert.ReferenceMergeIdeal.nD Cert.ReferenceMergeIdeal.τ).loc Cert.ReferenceMergeIdeal.main_arg7) = m' ((c.tc : Thread Cert.ReferenceMergeIdeal.nD Cert.ReferenceMergeIdeal.τ).loc Cert.ReferenceMergeIdeal.main_arg7)
          ∧ r.2.mem ((c.tc : Thread Cert.ReferenceMergeIdeal.nD Cert.ReferenceMergeIdeal.τ).loc Cert.ReferenceMergeIdeal.main_arg8) = m' ((c.tc : Thread Cert.ReferenceMergeIdeal.nD Cert.ReferenceMergeIdeal.τ).loc Cert.ReferenceMergeIdeal.main_arg8)
          ∧ r.2.mem ((c.tc : Thread Cert.ReferenceMergeIdeal.nD Cert.ReferenceMergeIdeal.τ).loc Cert.ReferenceMergeIdeal.main_arg9) = m' ((c.tc : Thread Cert.ReferenceMergeIdeal.nD Cert.ReferenceMergeIdeal.τ).loc Cert.ReferenceMergeIdeal.main_arg9))

def Claim : Prop :=
  ∃ (hKernel : Cert.Kernel.Facts) (hKernelIdeal : Cert.KernelIdeal.Facts) (hReferenceIdeal : Cert.ReferenceIdeal.Facts) (hKernelIn : Cert.KernelIn.Facts) (hKernelInIdeal : Cert.KernelInIdeal.Facts) (hReferenceInIdeal : Cert.ReferenceInIdeal.Facts) (hKernelMerge : Cert.KernelMerge.Facts) (hKernelMergeIdeal : Cert.KernelMergeIdeal.Facts) (hReferenceMergeIdeal : Cert.ReferenceMergeIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelMerge (hKernelMerge := hKernelMerge)
    ∧ quiescent_KernelMergeIdeal (hKernelMergeIdeal := hKernelMergeIdeal)
    ∧ quiescent_ReferenceMergeIdeal (hReferenceMergeIdeal := hReferenceMergeIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelIn_KernelInIdeal
    ∧ algebraic_KernelInIdeal_ReferenceInIdeal (hKernelInIdeal := hKernelInIdeal) (hReferenceInIdeal := hReferenceInIdeal)
    ∧ preserves_KernelMerge_KernelMergeIdeal
    ∧ algebraic_KernelMergeIdeal_ReferenceMergeIdeal (hKernelMergeIdeal := hKernelMergeIdeal) (hReferenceMergeIdeal := hReferenceMergeIdeal)
-- ==== Pre_finite.lean ====
abbrev S16384x512 : Shape := ⟨2, ![16384, 512]⟩
abbrev S16384x7168 : Shape := ⟨2, ![16384, 7168]⟩
abbrev S4x64 : Shape := ⟨2, ![4, 64]⟩
abbrev S128 : Shape := ⟨1, ![128]⟩
abbrev S_ : Shape := ⟨0, ![]⟩

class Facts : Prop where
  bitsLt_bf16_f32 : FTy.bits .bf16 < FTy.bits .f32
  slices_S16384x7168_S16384x512_0_3584 : S16384x7168.Slices ![0, 3584] S16384x512
  bcast_S_S16384x512 : S_.BroadcastsInDim S16384x512 (![] : Fin 0 → Fin S16384x512.rank)
  bcast_S_S4x64 : S_.BroadcastsInDim S4x64 (![] : Fin 0 → Fin S4x64.rank)

variable [Facts]

def fn_part1 {F : FTy → Type} [FloatOps F] (main_arg3 : FVec F S4x64 .f32) (main_v8 : IVec S16384x512 1) (main_v13 : IVec S16384x512 1) (main_v15 : IVec S16384x512 1) (main_v17 : IVec S16384x512 1) : IVec S16384x512 1 × IVec S16384x512 1 × IVec S16384x512 1 × IVec S4x64 1 :=
  let main_v18 : IVec S16384x512 1 := andi main_v15 main_v17
  let main_cst_5 : FVec F S_ .f32 := constant S_ .f32 0xFF800000#32
  let main_v19 : FVec F S4x64 .f32 := broadcastInDim S4x64 ![] bcast_S_S4x64 main_cst_5
  let main_v20 : IVec S4x64 1 := cmpf .ogt main_arg3 main_v19
  let main_cst_6 : FVec F S_ .f32 := constant S_ .f32 0x7F800000#32
  let main_v21 : FVec F S4x64 .f32 := broadcastInDim S4x64 ![] bcast_S_S4x64 main_cst_6
  let main_v22 : IVec S4x64 1 := cmpf .olt main_arg3 main_v21
  let main_v23 : IVec S4x64 1 := andi main_v20 main_v22
  (main_v8, main_v13, main_v18, main_v23)

def fn {F : FTy → Type} [FloatOps F] (main_arg0 : FVec F S16384x512 .bf16) (main_arg1 : FVec F S16384x512 .bf16) (main_arg2 : FVec F S16384x7168 .bf16) (main_arg3 : FVec F S4x64 .f32) (main_arg4 : FVec F S128 .f32) : IVec S16384x512 1 × IVec S16384x512 1 × IVec S16384x512 1 × IVec S4x64 1 :=
  let main_v0 : FVec F S16384x512 .f32 := (extf .f32 · bitsLt_bf16_f32) main_arg0
  let main_v1 : FVec F S16384x512 .f32 := (extf .f32 · bitsLt_bf16_f32) main_arg1
  let main_v2 : FVec F S16384x512 .bf16 := (extractStridedSlice S16384x512 ![0, 3584] · slices_S16384x7168_S16384x512_0_3584) main_arg2
  let main_v3 : FVec F S16384x512 .f32 := (extf .f32 · bitsLt_bf16_f32) main_v2
  let main_cst : FVec F S_ .f32 := constant S_ .f32 0xFF800000#32
  let main_v4 : FVec F S16384x512 .f32 := broadcastInDim S16384x512 ![] bcast_S_S16384x512 main_cst
  let main_v5 : IVec S16384x512 1 := cmpf .ogt main_v0 main_v4
  let main_cst_0 : FVec F S_ .f32 := constant S_ .f32 0x7F800000#32
  let main_v6 : FVec F S16384x512 .f32 := broadcastInDim S16384x512 ![] bcast_S_S16384x512 main_cst_0
  let main_v7 : IVec S16384x512 1 := cmpf .olt main_v0 main_v6
  let main_v8 : IVec S16384x512 1 := andi main_v5 main_v7
  let main_cst_1 : FVec F S_ .f32 := constant S_ .f32 0xFF800000#32
  let main_v9 : FVec F S16384x512 .f32 := broadcastInDim S16384x512 ![] bcast_S_S16384x512 main_cst_1
  let main_v10 : IVec S16384x512 1 := cmpf .ogt main_v1 main_v9
  let main_cst_2 : FVec F S_ .f32 := constant S_ .f32 0x7F800000#32
  let main_v11 : FVec F S16384x512 .f32 := broadcastInDim S16384x512 ![] bcast_S_S16384x512 main_cst_2
  let main_v12 : IVec S16384x512 1 := cmpf .olt main_v1 main_v11
  let main_v13 : IVec S16384x512 1 := andi main_v10 main_v12
  let main_cst_3 : FVec F S_ .f32 := constant S_ .f32 0xFF800000#32
  let main_v14 : FVec F S16384x512 .f32 := broadcastInDim S16384x512 ![] bcast_S_S16384x512 main_cst_3
  let main_v15 : IVec S16384x512 1 := cmpf .ogt main_v3 main_v14
  let main_cst_4 : FVec F S_ .f32 := constant S_ .f32 0x7F800000#32
  let main_v16 : FVec F S16384x512 .f32 := broadcastInDim S16384x512 ![] bcast_S_S16384x512 main_cst_4
  let main_v17 : IVec S16384x512 1 := cmpf .olt main_v3 main_v16
  fn_part1 (F := F) main_arg3 main_v8 main_v13 main_v15 main_v17
-- ==== Kernel.lean ====
abbrev S16384x512 : Shape := ⟨2, ![16384, 512]⟩
abbrev S16384x7168 : Shape := ⟨2, ![16384, 7168]⟩
abbrev S4x64 : Shape := ⟨2, ![4, 64]⟩
abbrev S128 : Shape := ⟨1, ![128]⟩
abbrev S16x1024x512 : Shape := ⟨3, ![16, 1024, 512]⟩
abbrev S16x512x1024 : Shape := ⟨3, ![16, 512, 1024]⟩
abbrev S128x1 : Shape := ⟨2, ![128, 1]⟩
abbrev S1024x128 : Shape := ⟨2, ![1024, 128]⟩
abbrev S8192x128 : Shape := ⟨2, ![8192, 128]⟩
abbrev S8x128x1024 : Shape := ⟨3, ![8, 128, 1024]⟩
abbrev S2x1x1024 : Shape := ⟨3, ![2, 1, 1024]⟩
abbrev S2x128x1024 : Shape := ⟨3, ![2, 128, 1024]⟩
abbrev S256x128 : Shape := ⟨2, ![256, 128]⟩
abbrev S1024x256 : Shape := ⟨2, ![1024, 256]⟩
abbrev S1x128x1024 : Shape := ⟨3, ![1, 128, 1024]⟩
abbrev S128x1024 : Shape := ⟨2, ![128, 1024]⟩
abbrev S1x1x256 : Shape := ⟨3, ![1, 1, 256]⟩
abbrev S1x256 : Shape := ⟨2, ![1, 256]⟩
abbrev S256 : Shape := ⟨1, ![256]⟩
abbrev S1x128x256 : Shape := ⟨3, ![1, 128, 256]⟩
abbrev S128x256 : Shape := ⟨2, ![128, 256]⟩
abbrev S1x64 : Shape := ⟨2, ![1, 64]⟩
abbrev S1 : Shape := ⟨1, ![1]⟩
abbrev S1x1 : Shape := ⟨2, ![1, 1]⟩
abbrev S1x1x1024 : Shape := ⟨3, ![1, 1, 1024]⟩
abbrev S1x1024 : Shape := ⟨2, ![1, 1024]⟩
abbrev S1024 : Shape := ⟨1, ![1024]⟩

abbrev nBuf : Space → Nat
  | .hbm => 10
  | .vmem => 13
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x7168, .bf16⟩
  | .hbm, ⟨3, _⟩ => ⟨S4x64, .f32⟩
  | .hbm, ⟨4, _⟩ => ⟨S128, .f32⟩
  | .hbm, ⟨5, _⟩ => ⟨S16384x512, .bf16⟩
  | .hbm, ⟨6, _⟩ => ⟨S16x1024x512, .bf16⟩
  | .hbm, ⟨7, _⟩ => ⟨S16x512x1024, .bf16⟩
  | .hbm, ⟨8, _⟩ => ⟨S128x1, .f32⟩
  | .hbm, ⟨9, _⟩ => ⟨S16384x512, .bf16⟩
  | .local _ .vmem, ⟨0, _⟩ => ⟨S1024x128, .bf16⟩
  | .local _ .vmem, ⟨1, _⟩ => ⟨S1024x128, .bf16⟩
  | .local _ .vmem, ⟨2, _⟩ => ⟨S8192x128, .bf16⟩
  | .local _ .vmem, ⟨3, _⟩ => ⟨S8192x128, .bf16⟩
  | .local _ .vmem, ⟨4, _⟩ => ⟨S8x128x1024, .bf16⟩
  | .local _ .vmem, ⟨5, _⟩ => ⟨S8x128x1024, .bf16⟩
  | .local _ .vmem, ⟨6, _⟩ => ⟨S4x64, .f32⟩
  | .local _ .vmem, ⟨7, _⟩ => ⟨S128x1, .f32⟩
  | .local _ .vmem, ⟨8, _⟩ => ⟨S1024x128, .bf16⟩
  | .local _ .vmem, ⟨9, _⟩ => ⟨S1024x128, .bf16⟩
  | .local _ .vmem, ⟨10, _⟩ => ⟨S2x1x1024, .f32⟩
  | .local _ .vmem, ⟨11, _⟩ => ⟨S2x1x1024, .f32⟩
  | .local _ .vmem, ⟨12, _⟩ => ⟨S2x128x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 4, 8], ![false, false, false]⟩

@[reducible] def k0_t1_loop (i : grid0.Coords) : Scf.Loop 32 :=
  let c0_i32_20 : BitVec 32 := 0#32
  let arg2 : BitVec 32 := BitVec.ofNat 32 (i 2).val
  let c0_i32 : BitVec 32 := 0#32
  let v23 : BitVec 1 := Scalar.cmpi .sgt arg2 c0_i32
  let v24 : BitVec 32 := Scalar.extui v23
  let c0_i32_15 : BitVec 32 := 0#32
  let v25 : BitVec 1 := Scalar.cmpi .slt arg2 c0_i32_15
  let v26 : BitVec 32 := Scalar.extui v25
  let v27 : BitVec 32 := Scalar.subi v24 v26
  let c2_i32 : BitVec 32 := 2#32
  let c0_i32_16 : BitVec 32 := 0#32
  let v28 : BitVec 1 := Scalar.cmpi .sgt c2_i32 c0_i32_16
  let v29 : BitVec 32 := Scalar.extui v28
  let c0_i32_17 : BitVec 32 := 0#32
  let v30 : BitVec 1 := Scalar.cmpi .slt c2_i32 c0_i32_17
  let v31 : BitVec 32 := Scalar.extui v30
  let v32 : BitVec 32 := Scalar.subi v29 v31
  let v33 : BitVec 1 := Scalar.cmpi .ne v27 v32
  let v34 : BitVec 32 := Scalar.remsi arg2 c2_i32
  let c0_i32_18 : BitVec 32 := 0#32
  let v35 : BitVec 1 := Scalar.cmpi .ne v34 c0_i32_18
  let v36 : BitVec 1 := Scalar.andi v33 v35
  let v22 : BitVec 32 := Scalar.divsi arg2 c2_i32
  let c1_i32 : BitVec 32 := 1#32
  let v37 : BitVec 32 := Scalar.subi v22 c1_i32
  let v38 : BitVec 32 := Scalar.select v36 v37 v22
  let v39 : BitVec 32 := Scalar.subi v38 c0_i32_20
  let c1_i32_21 : BitVec 32 := 1#32
  let v41 : BitVec 32 := Scalar.divsi v39 c1_i32_21
  let v42 : BitVec 32 := Scalar.muli v41 c1_i32_21
  let v43 : BitVec 32 := Scalar.addi c0_i32_20 v42
  let c1_i32_22 : BitVec 32 := 1#32
  ⟨c0_i32_20, v43, c1_i32_22⟩
def k0_mult1 (i : grid0.Coords) (k0_t1 : Fin (k0_t1_loop i).trips) : BitVec 32 :=
  let c2_i32_64 : BitVec 32 := 2#32
  let c0_i32_20 : BitVec 32 := 0#32
  let c1_i32_22 : BitVec 32 := 1#32
  let arg12 : BitVec 32 := Scf.iv c0_i32_20 c1_i32_22 k0_t1
  let v120 : BitVec 32 := Scalar.muli c2_i32_64 arg12
  let c1024_i32 : BitVec 32 := 1024#32
  let v123 : BitVec 32 := Scalar.muli v120 c1024_i32
  v123
def k0_off1 (i : grid0.Coords) (k0_t1 : Fin (k0_t1_loop i).trips) : Fin 2 → Nat :=
  let c2_i32_64 : BitVec 32 := 2#32
  let c0_i32_20 : BitVec 32 := 0#32
  let c1_i32_22 : BitVec 32 := 1#32
  let arg12 : BitVec 32 := Scf.iv c0_i32_20 c1_i32_22 k0_t1
  let v120 : BitVec 32 := Scalar.muli c2_i32_64 arg12
  let c1024_i32 : BitVec 32 := 1024#32
  let v123 : BitVec 32 := Scalar.muli v120 c1024_i32
  let v124 : BitVec 32 := v123
  let v125 : Index := Scalar.indexCast v124
  let c0_67 : Index := 0#32
  ![v125.toNat, 0]
def k0_off2 (i : grid0.Coords) (k0_t1 : Fin (k0_t1_loop i).trips) : Fin 3 → Nat :=
  let c2_i32_64 : BitVec 32 := 2#32
  let c0_i32_20 : BitVec 32 := 0#32
  let c1_i32_22 : BitVec 32 := 1#32
  let arg12 : BitVec 32 := Scf.iv c0_i32_20 c1_i32_22 k0_t1
  let v120 : BitVec 32 := Scalar.muli c2_i32_64 arg12
  let v143 : Index := Scalar.indexCast v120
  let c0_76 : Index := 0#32
  let c0_77 : Index := 0#32
  ![v143.toNat, 0, 0]
def k0_mult2 (i : grid0.Coords) (k0_t1 : Fin (k0_t1_loop i).trips) : BitVec 32 :=
  let c2_i32_65 : BitVec 32 := 2#32
  let c0_i32_20 : BitVec 32 := 0#32
  let c1_i32_22 : BitVec 32 := 1#32
  let arg12 : BitVec 32 := Scf.iv c0_i32_20 c1_i32_22 k0_t1
  let v121 : BitVec 32 := Scalar.muli c2_i32_65 arg12
  let c1_i32_66 : BitVec 32 := 1#32
  let v122 : BitVec 32 := Scalar.addi v121 c1_i32_66
  let c1024_i32_78 : BitVec 32 := 1024#32
  let v146 : BitVec 32 := Scalar.muli v122 c1024_i32_78
  v146
def k0_off3 (i : grid0.Coords) (k0_t1 : Fin (k0_t1_loop i).trips) : Fin 2 → Nat :=
  let c2_i32_65 : BitVec 32 := 2#32
  let c0_i32_20 : BitVec 32 := 0#32
  let c1_i32_22 : BitVec 32 := 1#32
  let arg12 : BitVec 32 := Scf.iv c0_i32_20 c1_i32_22 k0_t1
  let v121 : BitVec 32 := Scalar.muli c2_i32_65 arg12
  let c1_i32_66 : BitVec 32 := 1#32
  let v122 : BitVec 32 := Scalar.addi v121 c1_i32_66
  let c1024_i32_78 : BitVec 32 := 1024#32
  let v146 : BitVec 32 := Scalar.muli v122 c1024_i32_78
  let v147 : BitVec 32 := v146
  let v148 : Index := Scalar.indexCast v147
  let c0_79 : Index := 0#32
  ![v148.toNat, 0]
def k0_off4 (i : grid0.Coords) (k0_t1 : Fin (k0_t1_loop i).trips) : Fin 3 → Nat :=
  let c2_i32_65 : BitVec 32 := 2#32
  let c0_i32_20 : BitVec 32 := 0#32
  let c1_i32_22 : BitVec 32 := 1#32
  let arg12 : BitVec 32 := Scf.iv c0_i32_20 c1_i32_22 k0_t1
  let v121 : BitVec 32 := Scalar.muli c2_i32_65 arg12
  let c1_i32_66 : BitVec 32 := 1#32
  let v122 : BitVec 32 := Scalar.addi v121 c1_i32_66
  let v166 : Index := Scalar.indexCast v122
  let c0_88 : Index := 0#32
  let c0_89 : Index := 0#32
  ![v166.toNat, 0, 0]
@[reducible] def k0_t2_loop (i : grid0.Coords) : Scf.Loop 32 :=
  let c0_i32_20 : BitVec 32 := 0#32
  let arg2 : BitVec 32 := BitVec.ofNat 32 (i 2).val
  let c0_i32 : BitVec 32 := 0#32
  let v23 : BitVec 1 := Scalar.cmpi .sgt arg2 c0_i32
  let v24 : BitVec 32 := Scalar.extui v23
  let c0_i32_15 : BitVec 32 := 0#32
  let v25 : BitVec 1 := Scalar.cmpi .slt arg2 c0_i32_15
  let v26 : BitVec 32 := Scalar.extui v25
  let v27 : BitVec 32 := Scalar.subi v24 v26
  let c2_i32 : BitVec 32 := 2#32
  let c0_i32_16 : BitVec 32 := 0#32
  let v28 : BitVec 1 := Scalar.cmpi .sgt c2_i32 c0_i32_16
  let v29 : BitVec 32 := Scalar.extui v28
  let c0_i32_17 : BitVec 32 := 0#32
  let v30 : BitVec 1 := Scalar.cmpi .slt c2_i32 c0_i32_17
  let v31 : BitVec 32 := Scalar.extui v30
  let v32 : BitVec 32 := Scalar.subi v29 v31
  let v33 : BitVec 1 := Scalar.cmpi .ne v27 v32
  let v34 : BitVec 32 := Scalar.remsi arg2 c2_i32
  let c0_i32_18 : BitVec 32 := 0#32
  let v35 : BitVec 1 := Scalar.cmpi .ne v34 c0_i32_18
  let v36 : BitVec 1 := Scalar.andi v33 v35
  let v22 : BitVec 32 := Scalar.divsi arg2 c2_i32
  let c1_i32 : BitVec 32 := 1#32
  let v37 : BitVec 32 := Scalar.subi v22 c1_i32
  let v38 : BitVec 32 := Scalar.select v36 v37 v22
  let v39 : BitVec 32 := Scalar.subi v38 c0_i32_20
  let c1_i32_21 : BitVec 32 := 1#32
  let v41 : BitVec 32 := Scalar.divsi v39 c1_i32_21
  let v42 : BitVec 32 := Scalar.muli v41 c1_i32_21
  let v43 : BitVec 32 := Scalar.addi c0_i32_20 v42
  let v40 : BitVec 32 := Scalar.addi c0_i32_20 v39
  let c1_i32_23 : BitVec 32 := 1#32
  ⟨v43, v40, c1_i32_23⟩
def k0_mult3 (i : grid0.Coords) (k0_t2 : Fin (k0_t2_loop i).trips) : BitVec 32 :=
  let c2_i32_64 : BitVec 32 := 2#32
  let c0_i32_20 : BitVec 32 := 0#32
  let arg2 : BitVec 32 := BitVec.ofNat 32 (i 2).val
  let c0_i32 : BitVec 32 := 0#32
  let v23 : BitVec 1 := Scalar.cmpi .sgt arg2 c0_i32
  let v24 : BitVec 32 := Scalar.extui v23
  let c0_i32_15 : BitVec 32 := 0#32
  let v25 : BitVec 1 := Scalar.cmpi .slt arg2 c0_i32_15
  let v26 : BitVec 32 := Scalar.extui v25
  let v27 : BitVec 32 := Scalar.subi v24 v26
  let c2_i32 : BitVec 32 := 2#32
  let c0_i32_16 : BitVec 32 := 0#32
  let v28 : BitVec 1 := Scalar.cmpi .sgt c2_i32 c0_i32_16
  let v29 : BitVec 32 := Scalar.extui v28
  let c0_i32_17 : BitVec 32 := 0#32
  let v30 : BitVec 1 := Scalar.cmpi .slt c2_i32 c0_i32_17
  let v31 : BitVec 32 := Scalar.extui v30
  let v32 : BitVec 32 := Scalar.subi v29 v31
  let v33 : BitVec 1 := Scalar.cmpi .ne v27 v32
  let v34 : BitVec 32 := Scalar.remsi arg2 c2_i32
  let c0_i32_18 : BitVec 32 := 0#32
  let v35 : BitVec 1 := Scalar.cmpi .ne v34 c0_i32_18
  let v36 : BitVec 1 := Scalar.andi v33 v35
  let v22 : BitVec 32 := Scalar.divsi arg2 c2_i32
  let c1_i32 : BitVec 32 := 1#32
  let v37 : BitVec 32 := Scalar.subi v22 c1_i32
  let v38 : BitVec 32 := Scalar.select v36 v37 v22
  let v39 : BitVec 32 := Scalar.subi v38 c0_i32_20
  let c1_i32_21 : BitVec 32 := 1#32
  let v41 : BitVec 32 := Scalar.divsi v39 c1_i32_21
  let v42 : BitVec 32 := Scalar.muli v41 c1_i32_21
  let v43 : BitVec 32 := Scalar.addi c0_i32_20 v42
  let c1_i32_23 : BitVec 32 := 1#32
  let arg12 : BitVec 32 := Scf.iv v43 c1_i32_23 k0_t2
  let v120 : BitVec 32 := Scalar.muli c2_i32_64 arg12
  let c1024_i32 : BitVec 32 := 1024#32
  let v123 : BitVec 32 := Scalar.muli v120 c1024_i32
  v123
def k0_off5 (i : grid0.Coords) (k0_t2 : Fin (k0_t2_loop i).trips) : Fin 2 → Nat :=
  let c2_i32_64 : BitVec 32 := 2#32
  let c0_i32_20 : BitVec 32 := 0#32
  let arg2 : BitVec 32 := BitVec.ofNat 32 (i 2).val
  let c0_i32 : BitVec 32 := 0#32
  let v23 : BitVec 1 := Scalar.cmpi .sgt arg2 c0_i32
  let v24 : BitVec 32 := Scalar.extui v23
  let c0_i32_15 : BitVec 32 := 0#32
  let v25 : BitVec 1 := Scalar.cmpi .slt arg2 c0_i32_15
  let v26 : BitVec 32 := Scalar.extui v25
  let v27 : BitVec 32 := Scalar.subi v24 v26
  let c2_i32 : BitVec 32 := 2#32
  let c0_i32_16 : BitVec 32 := 0#32
  let v28 : BitVec 1 := Scalar.cmpi .sgt c2_i32 c0_i32_16
  let v29 : BitVec 32 := Scalar.extui v28
  let c0_i32_17 : BitVec 32 := 0#32
  let v30 : BitVec 1 := Scalar.cmpi .slt c2_i32 c0_i32_17
  let v31 : BitVec 32 := Scalar.extui v30
  let v32 : BitVec 32 := Scalar.subi v29 v31
  let v33 : BitVec 1 := Scalar.cmpi .ne v27 v32
  let v34 : BitVec 32 := Scalar.remsi arg2 c2_i32
  let c0_i32_18 : BitVec 32 := 0#32
  let v35 : BitVec 1 := Scalar.cmpi .ne v34 c0_i32_18
  let v36 : BitVec 1 := Scalar.andi v33 v35
  let v22 : BitVec 32 := Scalar.divsi arg2 c2_i32
  let c1_i32 : BitVec 32 := 1#32
  let v37 : BitVec 32 := Scalar.subi v22 c1_i32
  let v38 : BitVec 32 := Scalar.select v36 v37 v22
  let v39 : BitVec 32 := Scalar.subi v38 c0_i32_20
  let c1_i32_21 : BitVec 32 := 1#32
  let v41 : BitVec 32 := Scalar.divsi v39 c1_i32_21
  let v42 : BitVec 32 := Scalar.muli v41 c1_i32_21
  let v43 : BitVec 32 := Scalar.addi c0_i32_20 v42
  let c1_i32_23 : BitVec 32 := 1#32
  let arg12 : BitVec 32 := Scf.iv v43 c1_i32_23 k0_t2
  let v120 : BitVec 32 := Scalar.muli c2_i32_64 arg12
  let c1024_i32 : BitVec 32 := 1024#32
  let v123 : BitVec 32 := Scalar.muli v120 c1024_i32
  let v124 : BitVec 32 := v123
  let v125 : Index := Scalar.indexCast v124
  let c0_67 : Index := 0#32
  ![v125.toNat, 0]
def k0_off6 (i : grid0.Coords) (k0_t2 : Fin (k0_t2_loop i).trips) : Fin 3 → Nat :=
  let c2_i32_64 : BitVec 32 := 2#32
  let c0_i32_20 : BitVec 32 := 0#32
  let arg2 : BitVec 32 := BitVec.ofNat 32 (i 2).val
  let c0_i32 : BitVec 32 := 0#32
  let v23 : BitVec 1 := Scalar.cmpi .sgt arg2 c0_i32
  let v24 : BitVec 32 := Scalar.extui v23
  let c0_i32_15 : BitVec 32 := 0#32
  let v25 : BitVec 1 := Scalar.cmpi .slt arg2 c0_i32_15
  let v26 : BitVec 32 := Scalar.extui v25
  let v27 : BitVec 32 := Scalar.subi v24 v26
  let c2_i32 : BitVec 32 := 2#32
  let c0_i32_16 : BitVec 32 := 0#32
  let v28 : BitVec 1 := Scalar.cmpi .sgt c2_i32 c0_i32_16
  let v29 : BitVec 32 := Scalar.extui v28
  let c0_i32_17 : BitVec 32 := 0#32
  let v30 : BitVec 1 := Scalar.cmpi .slt c2_i32 c0_i32_17
  let v31 : BitVec 32 := Scalar.extui v30
  let v32 : BitVec 32 := Scalar.subi v29 v31
  let v33 : BitVec 1 := Scalar.cmpi .ne v27 v32
  let v34 : BitVec 32 := Scalar.remsi arg2 c2_i32
  let c0_i32_18 : BitVec 32 := 0#32
  let v35 : BitVec 1 := Scalar.cmpi .ne v34 c0_i32_18
  let v36 : BitVec 1 := Scalar.andi v33 v35
  let v22 : BitVec 32 := Scalar.divsi arg2 c2_i32
  let c1_i32 : BitVec 32 := 1#32
  let v37 : BitVec 32 := Scalar.subi v22 c1_i32
  let v38 : BitVec 32 := Scalar.select v36 v37 v22
  let v39 : BitVec 32 := Scalar.subi v38 c0_i32_20
  let c1_i32_21 : BitVec 32 := 1#32
  let v41 : BitVec 32 := Scalar.divsi v39 c1_i32_21
  let v42 : BitVec 32 := Scalar.muli v41 c1_i32_21
  let v43 : BitVec 32 := Scalar.addi c0_i32_20 v42
  let c1_i32_23 : BitVec 32 := 1#32
  let arg12 : BitVec 32 := Scf.iv v43 c1_i32_23 k0_t2
  let v120 : BitVec 32 := Scalar.muli c2_i32_64 arg12
  let v143 : Index := Scalar.indexCast v120
  let c0_76 : Index := 0#32
  let c0_77 : Index := 0#32
  ![v143.toNat, 0, 0]
def k0_mult4 (i : grid0.Coords) (k0_t2 : Fin (k0_t2_loop i).trips) : BitVec 32 :=
  let c2_i32_65 : BitVec 32 := 2#32
  let c0_i32_20 : BitVec 32 := 0#32
  let arg2 : BitVec 32 := BitVec.ofNat 32 (i 2).val
  let c0_i32 : BitVec 32 := 0#32
  let v23 : BitVec 1 := Scalar.cmpi .sgt arg2 c0_i32
  let v24 : BitVec 32 := Scalar.extui v23
  let c0_i32_15 : BitVec 32 := 0#32
  let v25 : BitVec 1 := Scalar.cmpi .slt arg2 c0_i32_15
  let v26 : BitVec 32 := Scalar.extui v25
  let v27 : BitVec 32 := Scalar.subi v24 v26
  let c2_i32 : BitVec 32 := 2#32
  let c0_i32_16 : BitVec 32 := 0#32
  let v28 : BitVec 1 := Scalar.cmpi .sgt c2_i32 c0_i32_16
  let v29 : BitVec 32 := Scalar.extui v28
  let c0_i32_17 : BitVec 32 := 0#32
  let v30 : BitVec 1 := Scalar.cmpi .slt c2_i32 c0_i32_17
  let v31 : BitVec 32 := Scalar.extui v30
  let v32 : BitVec 32 := Scalar.subi v29 v31
  let v33 : BitVec 1 := Scalar.cmpi .ne v27 v32
  let v34 : BitVec 32 := Scalar.remsi arg2 c2_i32
  let c0_i32_18 : BitVec 32 := 0#32
  let v35 : BitVec 1 := Scalar.cmpi .ne v34 c0_i32_18
  let v36 : BitVec 1 := Scalar.andi v33 v35
  let v22 : BitVec 32 := Scalar.divsi arg2 c2_i32
  let c1_i32 : BitVec 32 := 1#32
  let v37 : BitVec 32 := Scalar.subi v22 c1_i32
  let v38 : BitVec 32 := Scalar.select v36 v37 v22
  let v39 : BitVec 32 := Scalar.subi v38 c0_i32_20
  let c1_i32_21 : BitVec 32 := 1#32
  let v41 : BitVec 32 := Scalar.divsi v39 c1_i32_21
  let v42 : BitVec 32 := Scalar.muli v41 c1_i32_21
  let v43 : BitVec 32 := Scalar.addi c0_i32_20 v42
  let c1_i32_23 : BitVec 32 := 1#32
  let arg12 : BitVec 32 := Scf.iv v43 c1_i32_23 k0_t2
  let v121 : BitVec 32 := Scalar.muli c2_i32_65 arg12
  let c1_i32_66 : BitVec 32 := 1#32
  let v122 : BitVec 32 := Scalar.addi v121 c1_i32_66
  let c1024_i32_78 : BitVec 32 := 1024#32
  let v146 : BitVec 32 := Scalar.muli v122 c1024_i32_78
  v146
def k0_off7 (i : grid0.Coords) (k0_t2 : Fin (k0_t2_loop i).trips) : Fin 2 → Nat :=
  let c2_i32_65 : BitVec 32 := 2#32
  let c0_i32_20 : BitVec 32 := 0#32
  let arg2 : BitVec 32 := BitVec.ofNat 32 (i 2).val
  let c0_i32 : BitVec 32 := 0#32
  let v23 : BitVec 1 := Scalar.cmpi .sgt arg2 c0_i32
  let v24 : BitVec 32 := Scalar.extui v23
  let c0_i32_15 : BitVec 32 := 0#32
  let v25 : BitVec 1 := Scalar.cmpi .slt arg2 c0_i32_15
  let v26 : BitVec 32 := Scalar.extui v25
  let v27 : BitVec 32 := Scalar.subi v24 v26
  let c2_i32 : BitVec 32 := 2#32
  let c0_i32_16 : BitVec 32 := 0#32
  let v28 : BitVec 1 := Scalar.cmpi .sgt c2_i32 c0_i32_16
  let v29 : BitVec 32 := Scalar.extui v28
  let c0_i32_17 : BitVec 32 := 0#32
  let v30 : BitVec 1 := Scalar.cmpi .slt c2_i32 c0_i32_17
  let v31 : BitVec 32 := Scalar.extui v30
  let v32 : BitVec 32 := Scalar.subi v29 v31
  let v33 : BitVec 1 := Scalar.cmpi .ne v27 v32
  let v34 : BitVec 32 := Scalar.remsi arg2 c2_i32
  let c0_i32_18 : BitVec 32 := 0#32
  let v35 : BitVec 1 := Scalar.cmpi .ne v34 c0_i32_18
  let v36 : BitVec 1 := Scalar.andi v33 v35
  let v22 : BitVec 32 := Scalar.divsi arg2 c2_i32
  let c1_i32 : BitVec 32 := 1#32
  let v37 : BitVec 32 := Scalar.subi v22 c1_i32
  let v38 : BitVec 32 := Scalar.select v36 v37 v22
  let v39 : BitVec 32 := Scalar.subi v38 c0_i32_20
  let c1_i32_21 : BitVec 32 := 1#32
  let v41 : BitVec 32 := Scalar.divsi v39 c1_i32_21
  let v42 : BitVec 32 := Scalar.muli v41 c1_i32_21
  let v43 : BitVec 32 := Scalar.addi c0_i32_20 v42
  let c1_i32_23 : BitVec 32 := 1#32
  let arg12 : BitVec 32 := Scf.iv v43 c1_i32_23 k0_t2
  let v121 : BitVec 32 := Scalar.muli c2_i32_65 arg12
  let c1_i32_66 : BitVec 32 := 1#32
  let v122 : BitVec 32 := Scalar.addi v121 c1_i32_66
  let c1024_i32_78 : BitVec 32 := 1024#32
  let v146 : BitVec 32 := Scalar.muli v122 c1024_i32_78
  let v147 : BitVec 32 := v146
  let v148 : Index := Scalar.indexCast v147
  let c0_79 : Index := 0#32
  ![v148.toNat, 0]
def k0_off8 (i : grid0.Coords) (k0_t2 : Fin (k0_t2_loop i).trips) : Fin 3 → Nat :=
  let c2_i32_65 : BitVec 32 := 2#32
  let c0_i32_20 : BitVec 32 := 0#32
  let arg2 : BitVec 32 := BitVec.ofNat 32 (i 2).val
  let c0_i32 : BitVec 32 := 0#32
  let v23 : BitVec 1 := Scalar.cmpi .sgt arg2 c0_i32
  let v24 : BitVec 32 := Scalar.extui v23
  let c0_i32_15 : BitVec 32 := 0#32
  let v25 : BitVec 1 := Scalar.cmpi .slt arg2 c0_i32_15
  let v26 : BitVec 32 := Scalar.extui v25
  let v27 : BitVec 32 := Scalar.subi v24 v26
  let c2_i32 : BitVec 32 := 2#32
  let c0_i32_16 : BitVec 32 := 0#32
  let v28 : BitVec 1 := Scalar.cmpi .sgt c2_i32 c0_i32_16
  let v29 : BitVec 32 := Scalar.extui v28
  let c0_i32_17 : BitVec 32 := 0#32
  let v30 : BitVec 1 := Scalar.cmpi .slt c2_i32 c0_i32_17
  let v31 : BitVec 32 := Scalar.extui v30
  let v32 : BitVec 32 := Scalar.subi v29 v31
  let v33 : BitVec 1 := Scalar.cmpi .ne v27 v32
  let v34 : BitVec 32 := Scalar.remsi arg2 c2_i32
  let c0_i32_18 : BitVec 32 := 0#32
  let v35 : BitVec 1 := Scalar.cmpi .ne v34 c0_i32_18
  let v36 : BitVec 1 := Scalar.andi v33 v35
  let v22 : BitVec 32 := Scalar.divsi arg2 c2_i32
  let c1_i32 : BitVec 32 := 1#32
  let v37 : BitVec 32 := Scalar.subi v22 c1_i32
  let v38 : BitVec 32 := Scalar.select v36 v37 v22
  let v39 : BitVec 32 := Scalar.subi v38 c0_i32_20
  let c1_i32_21 : BitVec 32 := 1#32
  let v41 : BitVec 32 := Scalar.divsi v39 c1_i32_21
  let v42 : BitVec 32 := Scalar.muli v41 c1_i32_21
  let v43 : BitVec 32 := Scalar.addi c0_i32_20 v42
  let c1_i32_23 : BitVec 32 := 1#32
  let arg12 : BitVec 32 := Scf.iv v43 c1_i32_23 k0_t2
  let v121 : BitVec 32 := Scalar.muli c2_i32_65 arg12
  let c1_i32_66 : BitVec 32 := 1#32
  let v122 : BitVec 32 := Scalar.addi v121 c1_i32_66
  let v166 : Index := Scalar.indexCast v122
  let c0_88 : Index := 0#32
  let c0_89 : Index := 0#32
  ![v166.toNat, 0, 0]
def k0_cond1 (i : grid0.Coords) : BitVec 1 :=
  let arg2 : BitVec 32 := BitVec.ofNat 32 (i 2).val
  let c2_i32_24 : BitVec 32 := 2#32
  let c0_i32_25 : BitVec 32 := 0#32
  let v44 : BitVec 1 := Scalar.cmpi .eq c2_i32_24 c0_i32_25
  let c1_i32_26 : BitVec 32 := 1#32
  let v45 : BitVec 32 := Scalar.select v44 c1_i32_26 c2_i32_24
  let v46 : BitVec 32 := Scalar.remsi arg2 v45
  let c0_i32_28 : BitVec 32 := 0#32
  let v48 : BitVec 1 := Scalar.cmpi .slt v46 c0_i32_28
  let c0_i32_29 : BitVec 32 := 0#32
  let v49 : BitVec 1 := Scalar.cmpi .slt v45 c0_i32_29
  let v50 : BitVec 1 := Scalar.xori v48 v49
  let c0_i32_27 : BitVec 32 := 0#32
  let v47 : BitVec 1 := Scalar.cmpi .ne v46 c0_i32_27
  let v51 : BitVec 1 := Scalar.andi v50 v47
  let v52 : BitVec 32 := Scalar.addi v46 v45
  let v53 : BitVec 32 := Scalar.select v51 v52 v46
  let c1_i32_30 : BitVec 32 := 1#32
  let v54 : BitVec 1 := Scalar.cmpi .eq v53 c1_i32_30
  let v55 : BitVec 32 := Scalar.extui v54
  let c0_i32_31 : BitVec 32 := 0#32
  let v56 : BitVec 1 := Scalar.cmpi .ne v55 c0_i32_31
  v56

def k0_mult5 (i : grid0.Coords) : BitVec 32 :=
  let arg2 : BitVec 32 := BitVec.ofNat 32 (i 2).val
  let c1_i32_64 : BitVec 32 := 1#32
  let v120 : BitVec 32 := Scalar.subi arg2 c1_i32_64
  let c1024_i32 : BitVec 32 := 1024#32
  let v121 : BitVec 32 := Scalar.muli v120 c1024_i32
  v121
def k0_off9 (i : grid0.Coords) : Fin 2 → Nat :=
  let arg2 : BitVec 32 := BitVec.ofNat 32 (i 2).val
  let c1_i32_64 : BitVec 32 := 1#32
  let v120 : BitVec 32 := Scalar.subi arg2 c1_i32_64
  let c1024_i32 : BitVec 32 := 1024#32
  let v121 : BitVec 32 := Scalar.muli v120 c1024_i32
  let v122 : BitVec 32 := v121
  let v123 : Index := Scalar.indexCast v122
  let c0_65 : Index := 0#32
  ![v123.toNat, 0]
def k0_off10 (i : grid0.Coords) : Fin 3 → Nat :=
  let arg2 : BitVec 32 := BitVec.ofNat 32 (i 2).val
  let c1_i32_64 : BitVec 32 := 1#32
  let v120 : BitVec 32 := Scalar.subi arg2 c1_i32_64
  let v141 : Index := Scalar.indexCast v120
  let c0_74 : Index := 0#32
  let c0_75 : Index := 0#32
  ![v141.toNat, 0, 0]
def k0_mult6 (i : grid0.Coords) : BitVec 32 :=
  let arg2 : BitVec 32 := BitVec.ofNat 32 (i 2).val
  let c1024_i32_76 : BitVec 32 := 1024#32
  let v144 : BitVec 32 := Scalar.muli arg2 c1024_i32_76
  v144
def k0_off11 (i : grid0.Coords) : Fin 2 → Nat :=
  let arg2 : BitVec 32 := BitVec.ofNat 32 (i 2).val
  let c1024_i32_76 : BitVec 32 := 1024#32
  let v144 : BitVec 32 := Scalar.muli arg2 c1024_i32_76
  let v145 : BitVec 32 := v144
  let v146 : Index := Scalar.indexCast v145
  let c0_77 : Index := 0#32
  ![v146.toNat, 0]
def k0_off12 (i : grid0.Coords) : Fin 3 → Nat :=
  let arg2 : BitVec 32 := BitVec.ofNat 32 (i 2).val
  let v164 : Index := Scalar.indexCast arg2
  let c0_86 : Index := 0#32
  let c0_87 : Index := 0#32
  ![v164.toNat, 0, 0]
def k0_cond2 (i : grid0.Coords) : BitVec 1 :=
  let arg2 : BitVec 32 := BitVec.ofNat 32 (i 2).val
  let c2_i32_32 : BitVec 32 := 2#32
  let c0_i32_33 : BitVec 32 := 0#32
  let v57 : BitVec 1 := Scalar.cmpi .eq c2_i32_32 c0_i32_33
  let c1_i32_34 : BitVec 32 := 1#32
  let v58 : BitVec 32 := Scalar.select v57 c1_i32_34 c2_i32_32
  let v59 : BitVec 32 := Scalar.remsi arg2 v58
  let c0_i32_36 : BitVec 32 := 0#32
  let v61 : BitVec 1 := Scalar.cmpi .slt v59 c0_i32_36
  let c0_i32_37 : BitVec 32 := 0#32
  let v62 : BitVec 1 := Scalar.cmpi .slt v58 c0_i32_37
  let v63 : BitVec 1 := Scalar.xori v61 v62
  let c0_i32_35 : BitVec 32 := 0#32
  let v60 : BitVec 1 := Scalar.cmpi .ne v59 c0_i32_35
  let v64 : BitVec 1 := Scalar.andi v63 v60
  let v65 : BitVec 32 := Scalar.addi v59 v58
  let v66 : BitVec 32 := Scalar.select v64 v65 v59
  let c0_i32_38 : BitVec 32 := 0#32
  let v67 : BitVec 1 := Scalar.cmpi .eq v66 c0_i32_38
  let v68 : BitVec 32 := Scalar.extui v67
  let c0_i32_39 : BitVec 32 := 0#32
  let v69 : BitVec 1 := Scalar.cmpi .ne v68 c0_i32_39
  v69

def k0_mult7 (i : grid0.Coords) : BitVec 32 :=
  let arg2 : BitVec 32 := BitVec.ofNat 32 (i 2).val
  let c1024_i32 : BitVec 32 := 1024#32
  let v120 : BitVec 32 := Scalar.muli arg2 c1024_i32
  v120
def k0_off13 (i : grid0.Coords) : Fin 2 → Nat :=
  let arg2 : BitVec 32 := BitVec.ofNat 32 (i 2).val
  let c1024_i32 : BitVec 32 := 1024#32
  let v120 : BitVec 32 := Scalar.muli arg2 c1024_i32
  let v121 : BitVec 32 := v120
  let v122 : Index := Scalar.indexCast v121
  let c0_64 : Index := 0#32
  ![v122.toNat, 0]
def k0_off14 (i : grid0.Coords) : Fin 3 → Nat :=
  let arg2 : BitVec 32 := BitVec.ofNat 32 (i 2).val
  let v140 : Index := Scalar.indexCast arg2
  let c0_73 : Index := 0#32
  let c0_74 : Index := 0#32
  ![v140.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S16384x512 : Shape := ⟨2, ![16384, 512]⟩
abbrev S16384x7168 : Shape := ⟨2, ![16384, 7168]⟩
abbrev S4x64 : Shape := ⟨2, ![4, 64]⟩
abbrev S128 : Shape := ⟨1, ![128]⟩
abbrev S2x8192x4x2x64 : Shape := ⟨5, ![2, 8192, 4, 2, 64]⟩
abbrev S2x8192x4x128 : Shape := ⟨4, ![2, 8192, 4, 128]⟩
abbrev S1x64 : Shape := ⟨2, ![1, 64]⟩
abbrev S64 : Shape := ⟨1, ![64]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x4x2x8192x8192 : Shape := ⟨5, ![2, 4, 2, 8192, 8192]⟩
abbrev S2x4x2x8192 : Shape := ⟨4, ![2, 4, 2, 8192]⟩
abbrev S2x4x2x8192x1 : Shape := ⟨5, ![2, 4, 2, 8192, 1]⟩
abbrev S2x4x1x8192x8192 : Shape := ⟨5, ![2, 4, 1, 8192, 8192]⟩
abbrev S2x4x8192x8192 : Shape := ⟨4, ![2, 4, 8192, 8192]⟩
abbrev S2x4x128x8192 : Shape := ⟨4, ![2, 4, 128, 8192]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩

abbrev nBuf : Space → Nat
  | .hbm => 107
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x7168, .bf16⟩
  | .hbm, ⟨3, _⟩ => ⟨S4x64, .f32⟩
  | .hbm, ⟨4, _⟩ => ⟨S128, .f32⟩
  | .hbm, ⟨5, _⟩ => ⟨S16384x512, .f32⟩
  | .hbm, ⟨6, _⟩ => ⟨S2x8192x4x2x64, .f32⟩
  | .hbm, ⟨7, _⟩ => ⟨S16384x512, .f32⟩
  | .hbm, ⟨8, _⟩ => ⟨S2x8192x4x2x64, .f32⟩
  | .hbm, ⟨9, _⟩ => ⟨S16384x512, .bf16⟩
  | .hbm, ⟨10, _⟩ => ⟨S16384x512, .f32⟩
  | .hbm, ⟨11, _⟩ => ⟨S2x8192x4x128, .f32⟩
  | .hbm, ⟨12, _⟩ => ⟨S1x64, .f32⟩
  | .hbm, ⟨13, _⟩ => ⟨S64, .f32⟩
  | .hbm, ⟨14, _⟩ => ⟨S1x64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1x64, .f32⟩
  | .hbm, ⟨21, _⟩ => ⟨S64, .f32⟩
  | .hbm, ⟨22, _⟩ => ⟨S1x64, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8192, .i32⟩
  | .hbm, ⟨32, _⟩ => ⟨S_, .i32⟩
  | .hbm, ⟨33, _⟩ => ⟨S_, .i32⟩
  | .hbm, ⟨34, _⟩ => ⟨S8192, .i32⟩
  | .hbm, ⟨35, _⟩ => ⟨S8192, .i32⟩
  | .hbm, ⟨36, _⟩ => ⟨S8192, .i32⟩
  | .hbm, ⟨37, _⟩ => ⟨S_, .i32⟩
  | .hbm, ⟨38, _⟩ => ⟨S8192, .i32⟩
  | .hbm, ⟨39, _⟩ => ⟨S8192, .i1⟩
  | .hbm, ⟨40, _⟩ => ⟨S8192, .i32⟩
  | .hbm, ⟨41, _⟩ => ⟨S8192, .i32⟩
  | .hbm, ⟨42, _⟩ => ⟨S_, .i32⟩
  | .hbm, ⟨43, _⟩ => ⟨S8192, .i32⟩
  | .hbm, ⟨44, _⟩ => ⟨S8192, .i1⟩
  | .hbm, ⟨45, _⟩ => ⟨S8192, .i1⟩
  | .hbm, ⟨46, _⟩ => ⟨S_, .i32⟩
  | .hbm, ⟨47, _⟩ => ⟨S8192, .i32⟩
  | .hbm, ⟨48, _⟩ => ⟨S8192, .i32⟩
  | .hbm, ⟨49, _⟩ => ⟨S8192, .i32⟩
  | .hbm, ⟨50, _⟩ => ⟨S1x8192, .i32⟩
  | .hbm, ⟨51, _⟩ => ⟨S8192x1, .i32⟩
  | .hbm, ⟨52, _⟩ => ⟨S8192x8192, .i32⟩
  | .hbm, ⟨53, _⟩ => ⟨S8192x8192, .i32⟩
  | .hbm, ⟨54, _⟩ => ⟨S8192x8192, .i1⟩
  | .hbm, ⟨55, _⟩ => ⟨S2x4x2x8192x8192, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S2x4x2x8192x8192, .f32⟩
  | .hbm, ⟨60, _⟩ => ⟨S2x4x2x8192x8192, .f32⟩
  | .hbm, ⟨61, _⟩ => ⟨S_, .f32⟩
  | .hbm, ⟨62, _⟩ => ⟨S_, .f32⟩
  | .hbm, ⟨63, _⟩ => ⟨S2x4x2x8192x8192, .i1⟩
  | .hbm, ⟨64, _⟩ => ⟨S2x4x2x8192x8192, .f32⟩
  | .hbm, ⟨65, _⟩ => ⟨S2x4x2x8192x8192, .f32⟩
  | .hbm, ⟨66, _⟩ => ⟨S_, .f32⟩
  | .hbm, ⟨67, _⟩ => ⟨S2x4x2x8192, .f32⟩
  | .hbm, ⟨68, _⟩ => ⟨S2x4x2x8192x1, .f32⟩
  | .hbm, ⟨69, _⟩ => ⟨S2x4x2x8192x8192, .f32⟩
  | .hbm, ⟨70, _⟩ => ⟨S2x4x2x8192x8192, .f32⟩
  | .hbm, ⟨71, _⟩ => ⟨S2x4x2x8192x8192, .f32⟩
  | .hbm, ⟨72, _⟩ => ⟨S_, .f32⟩
  | .hbm, ⟨73, _⟩ => ⟨S2x4x2x8192, .f32⟩
  | .hbm, ⟨74, _⟩ => ⟨S2x4x2x8192x1, .f32⟩
  | .hbm, ⟨75, _⟩ => ⟨S2x4x2x8192x8192, .f32⟩
  | .hbm, ⟨76, _⟩ => ⟨S2x4x2x8192x8192, .f32⟩
  | .hbm, ⟨77, _⟩ => ⟨S2x4x1x8192x8192, .f32⟩
  | .hbm, ⟨78, _⟩ => ⟨S2x4x8192x8192, .f32⟩
  | .hbm, ⟨79, _⟩ => ⟨S2x4x1x8192x8192, .f32⟩
  | .hbm, ⟨80, _⟩ => ⟨S2x4x8192x8192, .f32⟩
  | .hbm, ⟨81, _⟩ => ⟨S2x4x8192x8192, .f32⟩
  | .hbm, ⟨82, _⟩ => ⟨S2x4x8192x8192, .f32⟩
  | .hbm, ⟨83, _⟩ => ⟨S2x4x8192x8192, .f32⟩
  | .hbm, ⟨84, _⟩ => ⟨S2x4x128x8192, .f32⟩
  | .hbm, ⟨85, _⟩ => ⟨S2x8192x4x128, .f32⟩
  | .hbm, ⟨86, _⟩ => ⟨S2x8192x4x128, .f32⟩
  | .hbm, ⟨87, _⟩ => ⟨S_, .f32⟩
  | .hbm, ⟨88, _⟩ => ⟨S2x8192x4, .f32⟩
  | .hbm, ⟨89, _⟩ => ⟨S2x8192x4x1, .f32⟩
  | .hbm, ⟨90, _⟩ => ⟨S_, .f32⟩
  | .hbm, ⟨91, _⟩ => ⟨S2x8192x4x1, .f32⟩
  | .hbm, ⟨92, _⟩ => ⟨S2x8192x4x1, .f32⟩
  | .hbm, ⟨93, _⟩ => ⟨S_, .f32⟩
  | .hbm, ⟨94, _⟩ => ⟨S2x8192x4x1, .f32⟩
  | .hbm, ⟨95, _⟩ => ⟨S2x8192x4x1, .f32⟩
  | .hbm, ⟨96, _⟩ => ⟨S2x8192x4x1, .f32⟩
  | .hbm, ⟨97, _⟩ => ⟨S2x8192x4x128, .f32⟩
  | .hbm, ⟨98, _⟩ => ⟨S2x8192x4x128, .f32⟩
  | .hbm, ⟨99, _⟩ => ⟨S1x1x1x128, .f32⟩
  | .hbm, ⟨100, _⟩ => ⟨S2x8192x4x128, .f32⟩
  | .hbm, ⟨101, _⟩ => ⟨S2x8192x4x128, .f32⟩
  | .hbm, ⟨102, _⟩ => ⟨S_, .f32⟩
  | .hbm, ⟨103, _⟩ => ⟨S2x8192x4x128, .f32⟩
  | .hbm, ⟨104, _⟩ => ⟨S2x8192x4x128, .f32⟩
  | .hbm, ⟨105, _⟩ => ⟨S16384x512, .f32⟩
  | .hbm, ⟨106, _⟩ => ⟨S16384x512, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_c : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_c : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_0 : Ref sig .tc := ⟨.hbm, 46, rfl⟩
abbrev main_call0_v12 : Ref sig .tc := ⟨.hbm, 47, rfl⟩
abbrev main_call0_v13 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_2 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_3 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v35 : Ref sig .tc := ⟨.hbm, 65, rfl⟩
abbrev main_cst_4 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_5 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_6 : Ref sig .tc := ⟨.hbm, 87, rfl⟩
abbrev main_v55 : Ref sig .tc := ⟨.hbm, 88, rfl⟩
abbrev main_v56 : Ref sig .tc := ⟨.hbm, 89, rfl⟩
abbrev main_cst_7 : Ref sig .tc := ⟨.hbm, 90, rfl⟩
abbrev main_v57 : Ref sig .tc := ⟨.hbm, 91, rfl⟩
abbrev main_v58 : Ref sig .tc := ⟨.hbm, 92, rfl⟩
abbrev main_cst_8 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_9 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩

abbrev nD : Nat := 1
abbrev τ : Topo := Topo.v7x

variable {F : FTy → Type} [FloatOps F]
-- ==== KernelIn.lean ====
abbrev S16384x1024 : Shape := ⟨2, ![16384, 1024]⟩
abbrev S1024x7168 : Shape := ⟨2, ![1024, 7168]⟩
abbrev S16384x7168 : Shape := ⟨2, ![16384, 7168]⟩
abbrev S1024x1024 : Shape := ⟨2, ![1024, 1024]⟩
abbrev S1024x1792 : Shape := ⟨2, ![1024, 1792]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x7168, .bf16⟩
  | .hbm, ⟨2, _⟩ => ⟨S16384x7168, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1792, .bf16⟩
  | .local _ .vmem, ⟨3, _⟩ => ⟨S1024x1792, .bf16⟩
  | .local _ .vmem, ⟨4, _⟩ => ⟨S1024x1792, .bf16⟩
  | .local _ .vmem, ⟨5, _⟩ => ⟨S1024x1792, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceInIdeal.lean ====
abbrev S16384x1024 : Shape := ⟨2, ![16384, 1024]⟩
abbrev S1024x7168 : Shape := ⟨2, ![1024, 7168]⟩
abbrev S16384x7168 : Shape := ⟨2, ![16384, 7168]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x7168, .bf16⟩
  | .hbm, ⟨2, _⟩ => ⟨S16384x1024, .f32⟩
  | .hbm, ⟨3, _⟩ => ⟨S1024x7168, .f32⟩
  | .hbm, ⟨4, _⟩ => ⟨S16384x7168, .f32⟩
  | .hbm, ⟨5, _⟩ => ⟨S16384x7168, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KernelMerge.lean ====
abbrev S16384x512 : Shape := ⟨2, ![16384, 512]⟩
abbrev S16384x7168 : Shape := ⟨2, ![16384, 7168]⟩
abbrev S3x1024 : Shape := ⟨2, ![3, 1024]⟩
abbrev S3x512x1024 : Shape := ⟨3, ![3, 512, 1024]⟩
abbrev S1024x1024 : Shape := ⟨2, ![1024, 1024]⟩
abbrev S16384x1024 : Shape := ⟨2, ![16384, 1024]⟩
abbrev S1024 : Shape := ⟨1, ![1024]⟩
abbrev S1x1024 : Shape := ⟨2, ![1, 1024]⟩
abbrev S512x512 : Shape := ⟨2, ![512, 512]⟩
abbrev S512x1024 : Shape := ⟨2, ![512, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 16
  | .vmem => 23
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x7168, .bf16⟩
  | .hbm, ⟨4, _⟩ => ⟨S3x1024, .f32⟩
  | .hbm, ⟨5, _⟩ => ⟨S3x512x1024, .f32⟩
  | .hbm, ⟨6, _⟩ => ⟨S1024x1024, .f32⟩
  | .hbm, ⟨7, _⟩ => ⟨S16384x1024, .f32⟩
  | .hbm, ⟨8, _⟩ => ⟨S1024, .f32⟩
  | .hbm, ⟨9, _⟩ => ⟨S1024, .f32⟩
  | .hbm, ⟨10, _⟩ => ⟨S3x512x1024, .bf16⟩
  | .hbm, ⟨11, _⟩ => ⟨S1024x1024, .bf16⟩
  | .hbm, ⟨12, _⟩ => ⟨S1x1024, .f32⟩
  | .hbm, ⟨13, _⟩ => ⟨S1x1024, .f32⟩
  | .hbm, ⟨14, _⟩ => ⟨S16384x1024, .f32⟩
  | .hbm, ⟨15, _⟩ => ⟨S16384x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S3x1024, .f32⟩
  | .local _ .vmem, ⟨13, _⟩ => ⟨S3x512x1024, .bf16⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | .local _ .vmem, ⟨22, _⟩ => ⟨S512x1024, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceMergeIdeal.lean ====
abbrev S16384x512 : Shape := ⟨2, ![16384, 512]⟩
abbrev S16384x7168 : Shape := ⟨2, ![16384, 7168]⟩
abbrev S3x1024 : Shape := ⟨2, ![3, 1024]⟩
abbrev S3x512x1024 : Shape := ⟨3, ![3, 512, 1024]⟩
abbrev S1024x1024 : Shape := ⟨2, ![1024, 1024]⟩
abbrev S16384x1024 : Shape := ⟨2, ![16384, 1024]⟩
abbrev S1024 : Shape := ⟨1, ![1024]⟩
abbrev S16384x1x512 : Shape := ⟨3, ![16384, 1, 512]⟩
abbrev S16384x3x512 : Shape := ⟨3, ![16384, 3, 512]⟩
abbrev S3x1024x16384 : Shape := ⟨3, ![3, 1024, 16384]⟩
abbrev S16384x3x1024 : Shape := ⟨3, ![16384, 3, 1024]⟩
abbrev S16384x3072 : Shape := ⟨2, ![16384, 3072]⟩
abbrev S1x3x1024 : Shape := ⟨3, ![1, 3, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x7168, .bf16⟩
  | .hbm, ⟨4, _⟩ => ⟨S3x1024, .f32⟩
  | .hbm, ⟨5, _⟩ => ⟨S3x512x1024, .f32⟩
  | .hbm, ⟨6, _⟩ => ⟨S1024x1024, .f32⟩
  | .hbm, ⟨7, _⟩ => ⟨S16384x1024, .f32⟩
  | .hbm, ⟨8, _⟩ => ⟨S1024, .f32⟩
  | .hbm, ⟨9, _⟩ => ⟨S1024, .f32⟩
  | .hbm, ⟨10, _⟩ => ⟨S16384x512, .f32⟩
  | .hbm, ⟨11, _⟩ => ⟨S16384x512, .f32⟩
  | .hbm, ⟨12, _⟩ => ⟨S16384x512, .f32⟩
  | .hbm, ⟨13, _⟩ => ⟨S16384x1x512, .f32⟩
  | .hbm, ⟨14, _⟩ => ⟨S16384x1x512, .f32⟩
  | .hbm, ⟨15, _⟩ => ⟨S16384x1x512, .f32⟩
  | .hbm, ⟨16, _⟩ => ⟨S16384x3x512, .f32⟩
  | .hbm, ⟨17, _⟩ => ⟨S3x1024x16384, .f32⟩
  | .hbm, ⟨18, _⟩ => ⟨S16384x3x1024, .f32⟩
  | .hbm, ⟨19, _⟩ => ⟨S16384x3072, .bf16⟩
  | .hbm, ⟨20, _⟩ => ⟨S16384x3072, .f32⟩
  | .hbm, ⟨21, _⟩ => ⟨S16384x3x1024, .f32⟩
  | .hbm, ⟨22, _⟩ => ⟨S1x3x1024, .f32⟩
  | .hbm, ⟨23, _⟩ => ⟨S16384x3x1024, .f32⟩
  | .hbm, ⟨24, _⟩ => ⟨S16384x3x1024, .f32⟩
  | .hbm, ⟨25, _⟩ => ⟨S16384x3x1024, .f32⟩
  | .hbm, ⟨26, _⟩ => ⟨S16384x3x1024, .f32⟩
  | .hbm, ⟨27, _⟩ => ⟨S_, .f32⟩
  | .hbm, ⟨28, _⟩ => ⟨S16384x3x1024, .f32⟩
  | .hbm, ⟨29, _⟩ => ⟨S16384x3x1024, .f32⟩
  | .hbm, ⟨30, _⟩ => ⟨S_, .f32⟩
  | .hbm, ⟨31, _⟩ => ⟨S16384x3x1024, .f32⟩
  | .hbm, ⟨32, _⟩ => ⟨S16384x3x1024, .f32⟩
  | .hbm, ⟨33, _⟩ => ⟨S16384x3x1024, .f32⟩
  | .hbm, ⟨34, _⟩ => ⟨S_, .f32⟩
  | .hbm, ⟨35, _⟩ => ⟨S16384x1024, .f32⟩
  | .hbm, ⟨36, _⟩ => ⟨S_, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S16384x1024, .f32⟩
  | .hbm, ⟨57, _⟩ => ⟨S16384x1024, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S16384x1, .f32⟩
  | .hbm, ⟨62, _⟩ => ⟨S16384x1024, .f32⟩
  | .hbm, ⟨63, _⟩ => ⟨S16384x1024, .f32⟩
  | .hbm, ⟨64, _⟩ => ⟨S1x1024, .f32⟩
  | .hbm, ⟨65, _⟩ => ⟨S16384x1024, .f32⟩
  | .hbm, ⟨66, _⟩ => ⟨S16384x1024, .f32⟩
  | .hbm, ⟨67, _⟩ => ⟨S1x1024, .f32⟩
  | .hbm, ⟨68, _⟩ => ⟨S16384x1024, .f32⟩
  | .hbm, ⟨69, _⟩ => ⟨S16384x1024, .f32⟩
  | .hbm, ⟨70, _⟩ => ⟨S16384x1024, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]
-- ==== Proof.InProj.lean ====
/- The value of the input projection: every entry of the kernel's result is the plain sum of products over the
   1024 contracted columns, which is what the reference's matrix product is. -/
module

public import proofs.«01_k».proof.Proof.Gen.KernelInIdeal.Value
public import proofs.«01_k».proof.Proof.Gen.ReferenceInIdeal.Read
public import proofs.«01_k».proof.Defs
public import Idealize.ShloMosaic.Lib.MatmulPlain

@[expose] public section

set_option maxRecDepth 16384

noncomputable section

namespace Cert.Proof.InProj

open Idealize.ShloMosaic Idealize.ShloMosaic.TcCoe Idealize.SL.Sem Idealize.ShloMosaic.ValueIdx
open Cert.KernelInIdeal Cert.KernelInIdeal.Gen Cert.KernelInIdeal.Value
open scoped BigOperators

variable (m : (ℓ : Loc nD τ sig) → Buf (Elt Ideal) ℓ)

/-- The row block of a grid point is its second coordinate, the column block its first; each operand moves with
    the result along the axis it shares with it. -/
theorem idx_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

/-- Every pair of a row block and a column block is some point's. -/
theorem idx_onto : ∀ (a : Fin 16) (b : Fin 4), ∃ t : Fin cfg0.N, win0_2.index t = ![a.val, b.val] :=
  (by decide +kernel : ∀ (a : Fin 16) (b : Fin 4), ∃ t : Fin grid0.N, win0_2.index t = ![a.val, b.val])

/-- The result of the reference, as a function of the activations and the weights. -/
def prod (x : Vec Ideal S16384x1024 .bf16) (w : Vec Ideal S1024x7168 .bf16) : Vec Ideal S16384x7168 .bf16 :=
  Cert.ReferenceInIdeal.Read.val_main_v3 (F := Ideal) x w

/-- An entry of it is the sum of the products along the contracted axis. -/
theorem prod_apply (x : Vec Ideal S16384x1024 .bf16) (w : Vec Ideal S1024x7168 .bf16) (i : S16384x7168.Idx) :
    prod x w i = ∑ k : Fin 1024, x (ix2 (i 0) k) * w (ix2 k (i 1)) := by
  unfold prod
  rw [Cert.ReferenceInIdeal.Read.val_main_v3_apply]
  refine (Cert.ReferenceInIdeal.Read.val_main_v2_apply x w i).trans ?_
  refine Finset.sum_congr rfl fun k _ => ?_
  rw [Cert.ReferenceInIdeal.Read.val_main_v0_apply, Cert.ReferenceInIdeal.Read.val_main_v1_apply]
  refine congrArg₂ (· * ·) (congrArg x ?_) (congrArg w ?_) <;> apply Shape.idx_ext₂ <;> rfl

/-- What the body computes from its two blocks, entry by entry. -/
theorem pay_apply (x : Vec Ideal S1024x1024 .bf16) (w : Vec Ideal S1024x1792 .bf16) (y : S1024x1792.Idx) :
    k0_pay1 x w y = ∑ k : Fin 1024, x (ix2 (y 0) k) * w (ix2 k (y 1)) := by
  obtain ⟨r, q, rfl⟩ : ∃ (r : Fin 1024) (q : Fin 1792), y = ix2 r q := ⟨y 0, y 1, eq_ix2 y⟩
  unfold k0_pay1
  have e := Ideal.matmul_plain_apply (φ₁ := .bf16) (φ₂ := .bf16) none x w (constant S1024x1792 .f32 0x00000000#32) r q
  rw [constant_apply, Ideal.ofBits_zero_f32, zero_add] at e
  exact e

/-- What a grid point writes back is its block of the reference's product. -/
theorem flushed_eq (c : Dev nD) (t : Fin cfg0.N) (_ : (cfg0.win 2).flush t = true) :
    (dats m 0 c).flushed 2 t
      = ((cfg0.win 2).blk t).view.read (Elt Ideal) (prod (m ((c : Thread nD τ).loc main_arg0)) (m ((c : Thread nD τ).loc main_arg1))) := by
  rw [flushed2]
  obtain ⟨h0, h1, h2, h3⟩ := idx_facts t
  unfold out0_2
  rw [View.canon_unit_zero (by funext a; match a with | ⟨0, _⟩ => rfl | ⟨1, _⟩ => rfl),
    View.ld_unit_zero (S := S1024x1024) (by funext a; match a with | ⟨0, _⟩ => rfl | ⟨1, _⟩ => rfl),
    View.ld_unit_zero (S := S1024x1792) (by funext a; match a with | ⟨0, _⟩ => rfl | ⟨1, _⟩ => rfl)]
  funext y
  show k0_pay1 (iblk m c 0 t) (iblk m c 1 t) y = prod _ _ ((win0_2.rect t).idx y)
  rw [prod_apply]
  refine (pay_apply _ _ y).trans ?_
  refine Finset.sum_congr rfl fun k _ => ?_
  refine congrArg₂ (· * ·) ?_ ?_
  · show m ((c : Thread nD τ).loc main_arg0) ((win0_0.rect t).idx (ix2 (y 0) k)) = _
    refine congrArg _ (Shape.idx_ext₂ ?_ ?_)
    · show win0_0.index t (0 : Fin 2) * 1024 + 1 * (y 0).val = win0_2.index t (0 : Fin 2) * 1024 + 1 * (y 0).val
      rw [h0]
    · show win0_0.index t (1 : Fin 2) * 1024 + 1 * k.val = k.val
      rw [h1]; omega
  · show m ((c : Thread nD τ).loc main_arg1) ((win0_1.rect t).idx (ix2 k (y 1))) = _
    refine congrArg _ (Shape.idx_ext₂ ?_ ?_)
    · show win0_1.index t (0 : Fin 2) * 1024 + 1 * k.val = k.val
      rw [h2]; omega
    · show win0_1.index t (1 : Fin 2) * 1792 + 1 * (y 1).val = win0_2.index t (1 : Fin 2) * 1792 + 1 * (y 1).val
      rw [h3]

/-- The indices of a grid point's block of the result, axis by axis. -/
theorem mem_blk (t : Fin cfg0.N) (i : S16384x7168.Idx) :
    i ∈ ((cfg0.win 2).blk t).view.set ↔ ∀ a : Fin 2, win0_2.index t a * S1024x1792.size a ≤ (i a).val
      ∧ (i a).val < win0_2.index t a * S1024x1792.size a + S1024x1792.size a := by
  show i ∈ ((View.whole main_v0).slice (win0_2.rect t)).set ↔ _
  rw [View.set_slice_whole, Rect.mem_set_unit]; exact Iff.rfl

/-- The blocks cover the result. -/
theorem cover (i : S16384x7168.Idx) : ∃ t : Fin cfg0.N, (cfg0.win 2).flush t = true ∧ i ∈ ((cfg0.win 2).blk t).view.set := by
  have h0 := idx2_lt0 i; have h1 := idx2_lt1 i
  obtain ⟨t, ht⟩ := idx_onto ⟨(i 0).val / 1024, by omega⟩ ⟨(i 1).val / 1792, by omega⟩
  refine ⟨t, flush0_2 t, ?_⟩
  rw [mem_blk, ht]
  intro a
  match a with
  | ⟨0, _⟩ =>
    show (i 0).val / 1024 * 1024 ≤ (i 0).val ∧ (i 0).val < (i 0).val / 1024 * 1024 + 1024
    omega
  | ⟨1, _⟩ =>
    show (i 1).val / 1792 * 1792 ≤ (i 1).val ∧ (i 1).val < (i 1).val / 1792 * 1792 + 1792
    omega

/-- After the run the result is the reference's product of the two arguments. -/
theorem final (c : Dev nD) :
    (dats m 0 c).arrAt 2 cfg0.N = prod (m ((c : Thread nD τ).loc main_arg0)) (m ((c : Thread nD τ).loc main_arg1)) :=
  (dats m 0 c).arrAt_eq_of_cover 2 _ (flushed_eq m c) cover

/-- The kernel and the reference end with the same result, their arguments unchanged. -/
theorem algebraic : Cert.algebraic_KernelInIdeal_ReferenceInIdeal := fun m g m' g' _ hagree =>
  ⟨fun c => prod (m ((c.tc : Thread nD τ).loc main_arg0)) (m ((c.tc : Thread nD τ).loc main_arg1)),
    (θ_run _ _ _).mono (fun r h c => ⟨(h c).1.trans (final m c), (h c).2⟩) (run_blocks m g),
    (θ_run _ _ _).mono (fun r h c => ⟨by
      have e := (h c).1.trans (Cert.ReferenceInIdeal.Read.val_main_v3_eq _ _)
      rw [(hagree c).1, (hagree c).2] at e
      exact e, (h c).2⟩) (Cert.ReferenceInIdeal.Value.run m' g')⟩

end Cert.Proof.InProj

end
-- ==== Proof.MergeRow.lean ====
/- One row of the merge: the gated sum of the three branches, the scaled residual plus the output projection, and the
   normalisation of a row. Both the kernel's body and the reference are read here as these functions of one row. -/
module

public import proofs.«01_k».proof.Proof.Gen.KernelMergeIdeal.Value
public import proofs.«01_k».proof.Proof.Gen.ReferenceMergeIdeal.Read
public import proofs.«01_k».proof.Defs
public import Idealize.ShloMosaic.Lib.MatmulPlain
public import Idealize.ShloMosaic.Lib.IdealHost

@[expose] public section

set_option maxRecDepth 16384

noncomputable section

namespace Cert.Proof.Merge

open Idealize.ShloMosaic Idealize.ShloMosaic.TcCoe Idealize.SL.Sem Idealize.ShloMosaic.ValueIdx
open Cert.KernelMergeIdeal Cert.KernelMergeIdeal.Gen
open scoped BigOperators

/-- One branch at one entry: the gate, the logistic function of its logit plus its bias, times the projection. -/
def branch (y w : Fin 512 → EReal) (z b : EReal) : EReal := Ideal.logistic (z + b) * ∑ k, y k * w k

/-- A row of the stream plus the projection of the merged row, before the normalisation. -/
def resid (h mg : Fin 1024 → EReal) (w : Fin 1024 → Fin 1024 → EReal) (d : Fin 1024) : EReal :=
  Ideal.ofBits .f32 0x3FB504F3#32 * h d + ∑ k, mg k * w k d

/-- The mean of a row. -/
def mean (y : Fin 1024 → EReal) : EReal := Ideal.div (∑ k, y k) (Ideal.ofBits .f32 0x44800000#32)

/-- A row normalised to mean nought and unit variance, then scaled and shifted. -/
def norm (y : Fin 1024 → EReal) (g b : EReal) (d : Fin 1024) : EReal :=
  (y d - mean y) * Ideal.rsqrt (mean (fun k => (y k - mean y) * (y k - mean y)) + Ideal.ofBits .f32 0x3727C5AC#32) * g + b

/-! ## The kernel's body, entry by entry -/

/-- A product with one plane of the branch weights. -/
theorem mm_branch (y : FVec Ideal S512x512 .bf16) (w : FVec Ideal S1x512x1024 .bf16) (r : Fin 512) (d : Fin 1024) :
    matmul dot_S512x512_S512x1024_S512x1024_1_0_0_1_n_n none y (shapeCast S512x1024 w shapeCasts_S1x512x1024_S512x1024)
        (constant S512x1024 .f32 0x00000000#32) (ix2 r d)
      = ∑ k : Fin 512, y (ix2 r k) * w (ix3 0 k d) := by
  have e := Ideal.matmul_plain_apply (φ₁ := .bf16) (φ₂ := .bf16) none y
    (shapeCast S512x1024 w shapeCasts_S1x512x1024_S512x1024) (constant S512x1024 .f32 0x00000000#32) r d
  rw [constant_apply, Ideal.ofBits_zero_f32, zero_add] at e
  refine Eq.trans e (Finset.sum_congr rfl fun k _ => congrArg (y (ix2 r k) * ·) ?_)
  exact shapeCast_apply w shapeCasts_S1x512x1024_S512x1024 (ix2 k d) (ix3 0 k d) (by
    rw [Shape.rowMajor_val_two, Shape.rowMajor_val_three]; show (0 * 512 + k.val) * 1024 + d.val = k.val * 1024 + d.val; omega)

/-- A product with the output weights. -/
theorem mm_out (y : FVec Ideal S512x1024 .bf16) (w : FVec Ideal S1024x1024 .bf16) (r : Fin 512) (d : Fin 1024) :
    matmul dot_S512x1024_S1024x1024_S512x1024_1_0_0_1_n_n none y w
        (constant S512x1024 .f32 0x00000000#32) (ix2 r d)
      = ∑ k : Fin 1024, y (ix2 r k) * w (ix2 k d) := by
  have e := Ideal.matmul_plain_apply (φ₁ := .bf16) (φ₂ := .bf16) none y w (constant S512x1024 .f32 0x00000000#32) r d
  rw [constant_apply, Ideal.ofBits_zero_f32, zero_add] at e
  exact e

/-- A row vector broadcast over the rows. -/
theorem bc_row (v : FVec Ideal S1x1024 .f32) (r : Fin 512) (d : Fin 1024) :
    broadcastTo S512x1024 v broadcasts_S1x1024_S512x1024 (ix2 r d) = v (ix2 0 d) :=
  broadcastTo_apply v broadcasts_S1x1024_S512x1024 (ix2 r d) (ix2 0 d) fun a => match a with
    | ⟨0, _⟩ => by show 0 = if (1 : Nat) = 1 then 0 else r.val; rw [if_pos rfl]
    | ⟨1, _⟩ => by show d.val = if (1024 : Nat) = 1 then 0 else d.val; rw [if_neg (by decide)]

/-- A column vector broadcast over the columns. -/
theorem bc_col (v : FVec Ideal S512x1 .f32) (r : Fin 512) (d : Fin 1024) :
    broadcastTo S512x1024 v broadcasts_S512x1_S512x1024 (ix2 r d) = v (ix2 r 0) :=
  broadcastTo_apply v broadcasts_S512x1_S512x1024 (ix2 r d) (ix2 r 0) fun a => match a with
    | ⟨0, _⟩ => by show r.val = if (512 : Nat) = 1 then 0 else r.val; rw [if_neg (by decide)]
    | ⟨1, _⟩ => by show 0 = if (1 : Nat) = 1 then 0 else d.val; rw [if_pos rfl]

/-- The sums of the rows, kept as a column. -/
theorem row_sum (y : FVec Ideal S512x1024 .f32) (r : Fin 512) :
    shapeCast S512x1 (multiReduction .add [1] S512 y 0x00000000#32 reduces_S512x1024_S512 (.inl rfl) rfl) shapeCasts_S512_S512x1 (ix2 r 0)
      = ∑ k : Fin 1024, y (ix2 r k) := by
  rw [shapeCast_apply _ shapeCasts_S512_S512x1 (ix2 r 0) (ix1 r) (by
    rw [Shape.rowMajor_val_two, Shape.rowMajor_val_one]; show r.val = r.val * 1 + 0; omega)]
  refine (Ideal.multiReduction_add_single y _ reduces_S512x1024_S512 _ _ (ix1 r)).trans ?_
  refine Finset.sum_congr rfl fun k _ => congrArg y (Shape.idx_ext₂ ?_ ?_) <;> rfl

/-- The first two branches. -/
theorem pay1_apply (v0 : Vec Ideal S512x512 .bf16) (v1 : Vec Ideal S1x512x1024 .bf16) (v4 : Vec Ideal S512x1024 .bf16)
    (v6 : Vec Ideal S1x1024 .f32) (v11 : Vec Ideal S512x512 .bf16) (v12 : Vec Ideal S1x512x1024 .bf16)
    (v15 : Vec Ideal S512x1024 .bf16) (v17 : Vec Ideal S1x1024 .f32) (r : Fin 512) (d : Fin 1024) :
    k0_pay1 v0 v1 v4 v6 v11 v12 v15 v17 (ix2 r d)
      = branch (fun k => v0 (ix2 r k)) (fun k => v1 (ix3 0 k d)) (v4 (ix2 r d)) (v6 (ix2 0 d))
        + branch (fun k => v11 (ix2 r k)) (fun k => v12 (ix3 0 k d)) (v15 (ix2 r d)) (v17 (ix2 0 d)) := by
  unfold k0_pay1 branch
  rw [← mm_branch, ← mm_branch, ← bc_row v6 r d, ← bc_row v17 r d]
  rfl

/-- The third branch's projection. -/
theorem pay2_apply (v23 : Vec Ideal S512x512 .bf16) (v24 : Vec Ideal S1x512x1024 .bf16) (r : Fin 512) (d : Fin 1024) :
    k0_pay2 v23 v24 (ix2 r d) = ∑ k : Fin 512, v23 (ix2 r k) * v24 (ix3 0 k d) :=
  mm_branch v23 v24 r d

/-- The body's result at an entry is the normalised row, from the first two branches' sum, the third's projection and logits,
    the weights, the stream and the scale and shift. -/
theorem pay4_apply (v22 v26 v28 : FVec Ideal S512x1024 .f32) (v29 : Vec Ideal S1x1024 .f32) (v36 : Vec Ideal S1024x1024 .bf16)
    (v39 : Vec Ideal S512x1024 .f32) (v43 v45 : Vec Ideal S1x1024 .f32) (r : Fin 512) (d : Fin 1024) :
    k0_pay4 v22 v26 v28 v29 v36 v39 v43 v45 (ix2 r d)
      = norm (resid (fun k => v39 (ix2 r k))
          (fun k => v22 (ix2 r k) + Ideal.logistic (v28 (ix2 r k) + v29 (ix2 0 k)) * v26 (ix2 r k))
          (fun k e => v36 (ix2 k e))) (v43 (ix2 0 d)) (v45 (ix2 0 d)) d := by
  unfold k0_pay4
  simp only [shapeCast_self]
  generalize hR : (addf (mulf (broadcast S512x1024 (Scalar.ofBits (F := Ideal) .f32 0x3FB504F3#32)) v39) _ : FVec Ideal S512x1024 .f32) = R
  have hRe : ∀ e : Fin 1024, R (ix2 r e) = resid (fun k => v39 (ix2 r k))
          (fun k => v22 (ix2 r k) + Ideal.logistic (v28 (ix2 r k) + v29 (ix2 0 k)) * v26 (ix2 r k))
          (fun k e => v36 (ix2 k e)) e := by
    intro e
    subst hR
    unfold resid
    refine (addf_apply _ _ _).trans (congrArg₂ (· + ·) rfl ?_)
    refine (mm_out _ _ r e).trans (Finset.sum_congr rfl fun k _ => ?_)
    dsimp only
    rw [← bc_row v29 r k]
    rfl
  rw [← funext hRe]
  have hmean : ∀ X : FVec Ideal S512x1024 .f32, ∀ e : Fin 1024,
      broadcastTo S512x1024 (divf (shapeCast S512x1 (multiReduction .add [1] S512 X 0x00000000#32 reduces_S512x1024_S512 (.inl rfl) rfl) shapeCasts_S512_S512x1)
        (broadcast S512x1 (Scalar.ofBits (F := Ideal) .f32 0x44800000#32))) broadcasts_S512x1_S512x1024 (ix2 r e)
      = mean fun k => X (ix2 r k) := by
    intro X e
    rw [bc_col, mean, ← row_sum]
    rfl
  unfold norm
  refine (addf_apply _ _ _).trans (congrArg₂ (· + ·) ?_ (bc_row v45 r d))
  refine (mulf_apply _ _ _).trans (congrArg₂ (· * ·) ?_ (bc_row v43 r d))
  refine (mulf_apply _ _ _).trans (congrArg₂ (· * ·) ?_ ?_)
  · exact (subf_apply _ _ _).trans (congrArg₂ (· - ·) rfl (hmean R d))
  · rw [bc_col]
    refine congrArg Ideal.rsqrt (congrArg₂ (· + ·) ?_ rfl)
    refine congrArg₂ Ideal.div ?_ rfl
    refine (row_sum _ r).trans (Finset.sum_congr rfl fun k _ => ?_)
    have e : subf R _ (ix2 r k) = _ := (subf_apply _ _ _).trans (congrArg₂ (· - ·) rfl (hmean R k))
    exact (mulf_apply _ _ _).trans (congrArg₂ (· * ·) e e)

/-! ## The reference, entry by entry -/

section Reference
open Cert.ReferenceMergeIdeal.Read

/-- Column `d` of gate `n` among the columns of the projected stream. -/
def col (n : Fin 3) (d : Fin 1024) : Fin 7168 := ⟨4096 + n.val * 1024 + d.val, by have := n.isLt; have := d.isLt; omega⟩

variable (x0 x1 x2 : FVec Ideal S16384x512 .bf16) (x3 : FVec Ideal S16384x7168 .bf16) (x4 : FVec Ideal S3x1024 .f32)
  (x5 : FVec Ideal S3x512x1024 .f32) (x6 : FVec Ideal S1024x1024 .f32) (x7 : FVec Ideal S16384x1024 .f32)
  (x8 x9 : FVec Ideal S1024 .f32)

/-- The three branches' rows, by number. -/
def rows (n : Fin 3) : FVec Ideal S16384x512 .bf16 := match n with
  | 0 => x0
  | 1 => x1
  | 2 => x2

/-- The stacked branches read at a branch are that branch. -/
theorem stacked (t : Fin 16384) (n : Fin 3) (k : Fin 512) :
    val_main_v6 (F := Ideal) x0 x1 x2 (ix3 t n k) = rows x0 x1 x2 n (ix2 t k) := by
  unfold val_main_v6
  match n with
  | 0 =>
    refine (concatenate_apply_piece (t := Cert.ReferenceMergeIdeal.S16384x3x512) 1 _ _ (ix3 t 0 k) 0 (by simp) Cert.ReferenceMergeIdeal.S16384x1x512
      (val_main_v3 (F := Ideal) x0) rfl rfl 0 rfl (ix3 t 0 k)
      (fun b hb => by match b with
        | ⟨0, _⟩ => rfl
        | ⟨1, _⟩ => exact absurd rfl hb
        | ⟨2, _⟩ => rfl) rfl).trans ?_
    rw [val_main_v3_apply]
    exact congrArg x0 (Shape.idx_ext₂ rfl rfl)
  | 1 =>
    refine (concatenate_apply_piece (t := Cert.ReferenceMergeIdeal.S16384x3x512) 1 _ _ (ix3 t 1 k) 1 (by simp) Cert.ReferenceMergeIdeal.S16384x1x512
      (val_main_v4 (F := Ideal) x1) rfl rfl 1 rfl (ix3 t 0 k)
      (fun b hb => by match b with
        | ⟨0, _⟩ => rfl
        | ⟨1, _⟩ => exact absurd rfl hb
        | ⟨2, _⟩ => rfl) rfl).trans ?_
    rw [val_main_v4_apply]
    exact congrArg x1 (Shape.idx_ext₂ rfl rfl)
  | 2 =>
    refine (concatenate_apply_piece (t := Cert.ReferenceMergeIdeal.S16384x3x512) 1 _ _ (ix3 t 2 k) 2 (by simp) Cert.ReferenceMergeIdeal.S16384x1x512
      (val_main_v5 (F := Ideal) x2) rfl rfl 2 rfl (ix3 t 0 k)
      (fun b hb => by match b with
        | ⟨0, _⟩ => rfl
        | ⟨1, _⟩ => exact absurd rfl hb
        | ⟨2, _⟩ => rfl) rfl).trans ?_
    rw [val_main_v5_apply]
    exact congrArg x2 (Shape.idx_ext₂ rfl rfl)

/-- The gated projection of a branch at an entry. -/
theorem gated (t : Fin 16384) (n : Fin 3) (d : Fin 1024) :
    val_main_v21 (F := Ideal) x0 x1 x2 x3 x4 x5 (ix3 t n d)
      = branch (fun k => rows x0 x1 x2 n (ix2 t k)) (fun k => x5 (ix3 n k d)) (x3 (ix2 t (col n d))) (x4 (ix2 n d)) := by
  have hz : val_main_v14 (F := Ideal) x3 x4 (ix3 t n d) = x3 (ix2 t (col n d)) + x4 (ix2 n d) := by
    rw [val_main_v14_apply, val_main_v11_apply, val_main_v10_apply, val_main_v9_apply, val_main_v13_apply, val_main_v12_apply]
    refine congrArg₂ (· + ·) (congrArg x3 (Shape.idx_ext₂ ?_ ?_)) (congrArg x4 (Shape.idx_ext₂ rfl rfl))
    · show ((t.val * 3 + n.val) * 1024 + d.val) / 3072 = t.val
      have := n.isLt; have := d.isLt; omega
    · show 4096 + ((t.val * 3 + n.val) * 1024 + d.val) % 3072 = 4096 + n.val * 1024 + d.val
      have := n.isLt; have := d.isLt; omega
  have hg : val_main_v20 (F := Ideal) x3 x4 (ix3 t n d) = Ideal.logistic (x3 (ix2 t (col n d)) + x4 (ix2 n d)) := by
    rw [val_main_v20_apply, val_main_v19_apply, val_main_cst_0_apply, val_main_v18_apply, val_main_v17_apply, val_main_cst_apply,
      val_main_v16_apply, val_main_v15_apply, hz]
    show Ideal.div (Ideal.ofBits .f32 0x3F800000#32) (Ideal.ofBits .f32 0x3F800000#32 + _) = _
    rw [Ideal.ofBits_one_f32]
    rfl
  rw [val_main_v21_apply, hg, val_main_v8_apply, val_main_v7_apply]
  refine congrArg (Ideal.logistic _ * ·) (Finset.sum_congr rfl fun k _ => ?_)
  refine (mul_comm _ _).trans (congrArg₂ (· * ·) ?_ (congrArg x5 ?_))
  · refine (congrArg (val_main_v6 (F := Ideal) x0 x1 x2) ?_).trans (stacked x0 x1 x2 t n k)
    funext a; match a with | ⟨0, _⟩ => rfl | ⟨1, _⟩ => rfl | ⟨2, _⟩ => rfl
  · funext a; match a with | ⟨0, _⟩ => rfl | ⟨1, _⟩ => rfl | ⟨2, _⟩ => rfl

/-- A branch's gated projection in row `t`, by number, as a function of the column. -/
abbrev part (t : Fin 16384) (n : Fin 3) (d : Fin 1024) : EReal :=
  branch (fun k => rows x0 x1 x2 n (ix2 t k)) (fun k => x5 (ix3 n k d)) (x3 (ix2 t (col n d))) (x4 (ix2 n d))

/-- The merged row. -/
abbrev merged (t : Fin 16384) (d : Fin 1024) : EReal :=
  part x0 x1 x2 x3 x4 x5 t 0 d + part x0 x1 x2 x3 x4 x5 t 1 d + part x0 x1 x2 x3 x4 x5 t 2 d

/-- The row before the normalisation. -/
abbrev pre (t : Fin 16384) : Fin 1024 → EReal :=
  resid (fun k => x7 (ix2 t k)) (merged x0 x1 x2 x3 x4 x5 t) (fun k e => x6 (ix2 k e))

theorem merged_eq (t : Fin 16384) (d : Fin 1024) :
    val_main_v22 (F := Ideal) x0 x1 x2 x3 x4 x5 (ix2 t d) = merged x0 x1 x2 x3 x4 x5 t d := by
  rw [val_main_v22_apply, val_main_cst_1_apply]
  show Ideal.ofBits .f32 0x00000000#32 + _ = _
  rw [Ideal.ofBits_zero_f32, zero_add, Fin.sum_univ_three]
  have e : ∀ n : Fin 3, idx_main_v22 (ix2 t d) n = ix3 t n d := fun n => by
    funext a; match a with | ⟨0, _⟩ => rfl | ⟨1, _⟩ => rfl | ⟨2, _⟩ => rfl
  rw [e, e, e, gated, gated, gated]

theorem pre_eq (t : Fin 16384) (d : Fin 1024) :
    val_main_v26 (F := Ideal) x0 x1 x2 x3 x4 x5 x6 x7 (ix2 t d) = pre x0 x1 x2 x3 x4 x5 x6 x7 t d := by
  rw [val_main_v26_apply, val_main_v24_apply, val_main_v23_apply, val_main_cst_2_apply, val_main_v25_apply]
  refine congrArg₂ (· + ·) rfl (Finset.sum_congr rfl fun k _ => congrArg₂ (· * ·) ?_ ?_)
  · rw [← merged_eq]
    exact congrArg _ (Shape.idx_ext₂ rfl rfl)
  · exact congrArg x6 (Shape.idx_ext₂ rfl rfl)

theorem mean_eq (t : Fin 16384) (j : Cert.ReferenceMergeIdeal.S16384x1.Idx) (hj : (j 0).val = t.val) :
    val_main_v30 (F := Ideal) x0 x1 x2 x3 x4 x5 x6 x7 j = mean (pre x0 x1 x2 x3 x4 x5 x6 x7 t) := by
  rw [val_main_v30_apply, val_main_v28_apply, val_main_v27_apply, val_main_cst_3_apply, val_main_v29_apply, val_main_cst_4_apply]
  refine congrArg₂ Ideal.div ?_ rfl
  show Ideal.ofBits .f32 0x00000000#32 + _ = _
  rw [Ideal.ofBits_zero_f32, zero_add]
  refine Finset.sum_congr rfl fun k _ => ?_
  rw [← pre_eq]
  exact congrArg _ (Shape.idx_ext₂ hj rfl)

theorem dev_eq (t : Fin 16384) (d : Fin 1024) :
    val_main_v32 (F := Ideal) x0 x1 x2 x3 x4 x5 x6 x7 (ix2 t d)
      = pre x0 x1 x2 x3 x4 x5 x6 x7 t d - mean (pre x0 x1 x2 x3 x4 x5 x6 x7 t) := by
  rw [val_main_v32_apply, pre_eq, val_main_v31_apply, mean_eq _ _ _ _ _ _ _ _ t _ rfl]
  rfl

theorem var_eq (t : Fin 16384) (j : Cert.ReferenceMergeIdeal.S16384x1.Idx) (hj : (j 0).val = t.val) :
    val_main_v37 (F := Ideal) x0 x1 x2 x3 x4 x5 x6 x7 j
      = mean fun k => (pre x0 x1 x2 x3 x4 x5 x6 x7 t k - mean (pre x0 x1 x2 x3 x4 x5 x6 x7 t))
          * (pre x0 x1 x2 x3 x4 x5 x6 x7 t k - mean (pre x0 x1 x2 x3 x4 x5 x6 x7 t)) := by
  rw [val_main_v37_apply, val_main_v35_apply, val_main_v34_apply, val_main_cst_5_apply, val_main_v36_apply, val_main_cst_6_apply]
  refine congrArg₂ Ideal.div ?_ rfl
  show Ideal.ofBits .f32 0x00000000#32 + _ = _
  rw [Ideal.ofBits_zero_f32, zero_add]
  refine Finset.sum_congr rfl fun k _ => ?_
  have e : idx_main_v34 (idx_main_v35 j) k = ix2 t k := Shape.idx_ext₂ hj rfl
  rw [val_main_v33_apply, e, dev_eq]
  rfl

/-- The reference's result at an entry is the normalised row. -/
theorem ref_apply (t : Fin 16384) (d : Fin 1024) :
    val_main_v50 (F := Ideal) x0 x1 x2 x3 x4 x5 x6 x7 x8 x9 (ix2 t d)
      = norm (pre x0 x1 x2 x3 x4 x5 x6 x7 t) (x8 (ix1 d)) (x9 (ix1 d)) d := by
  rw [val_main_v50_apply, val_main_v47_apply, val_main_v44_apply, val_main_v39_apply, val_main_v38_apply,
    val_main_v43_apply, val_main_v42_apply, val_main_v41_apply, val_main_v40_apply, val_main_cst_7_apply,
    val_main_v46_apply, val_main_v45_apply, val_main_v49_apply, val_main_v48_apply,
    pre_eq, mean_eq _ _ _ _ _ _ _ _ t _ rfl, var_eq _ _ _ _ _ _ _ _ t _ rfl]
  refine congrArg₂ (· + ·) (congrArg₂ (· * ·) rfl (congrArg x8 ?_)) (congrArg x9 ?_) <;>
    (funext a; match a with | ⟨0, _⟩ => rfl)

end Reference

end Cert.Proof.Merge

end
-- ==== Proof.Merge.lean ====
/- The value of the merge: each row block of the two results is that block of the reference's two results. -/
module

public import proofs.«01_k».proof.Proof.MergeRow

@[expose] public section

set_option maxRecDepth 16384

noncomputable section

namespace Cert.Proof.Merge

open Idealize.ShloMosaic Idealize.ShloMosaic.TcCoe Idealize.SL.Sem Idealize.ShloMosaic.ValueIdx
open Cert.KernelMergeIdeal Cert.KernelMergeIdeal.Gen Cert.KernelMergeIdeal.Value
open scoped BigOperators

variable (m : (ℓ : Loc nD τ sig) → Buf (Elt Ideal) ℓ)

/-- The operands that move with the results take the same row block; the three gates are the last three column blocks. -/
theorem idx_row : ∀ t : Fin cfg0.N,
    win0_0.index t = ![t.val, 0] ∧ win0_1.index t = ![t.val, 0] ∧ win0_2.index t = ![t.val, 0]
    ∧ win0_3.index t = ![t.val, 4] ∧ win0_4.index t = ![t.val, 5] ∧ win0_5.index t = ![t.val, 6]
    ∧ win0_9.index t = ![t.val, 0] ∧ win0_12.index t = ![t.val, 0] ∧ win0_13.index t = ![t.val, 0] :=
  (by decide +kernel : ∀ t : Fin grid0.N, _)

/-- The weights and vectors are whole at every point. -/
theorem idx_whole : ∀ t : Fin cfg0.N,
    win0_6.index t = ![0, 0] ∧ win0_7.index t = ![0, 0, 0] ∧ win0_8.index t = ![0, 0]
    ∧ win0_10.index t = ![0, 0] ∧ win0_11.index t = ![0, 0] :=
  (by decide +kernel : ∀ t : Fin grid0.N, _)

/-- The row of the arrays that row `r` of block `t` is. -/
def row (t : Fin cfg0.N) (r : Fin 512) : Fin 16384 :=
  ⟨t.val * 512 + r.val, by have h : t.val < 32 := t.isLt; have := r.isLt; omega⟩

/-! ## The host's four buffers -/

theorem V_v0 (c : Dev nD) : V m c main_v0 = truncf (F := Ideal) .bf16 (m ((c : Thread nD τ).loc main_arg5)) bitsLt_bf16_f32 := by
  show StableHlo.after hostOps0 _ _ = _
  after_results

theorem V_v1 (c : Dev nD) : V m c main_v1 = truncf (F := Ideal) .bf16 (m ((c : Thread nD τ).loc main_arg6)) bitsLt_bf16_f32 := by
  show StableHlo.after hostOps0 _ _ = _
  after_results

theorem V_v2 (c : Dev nD) : V m c main_v2 = shapeCast S1x1024 (m ((c : Thread nD τ).loc main_arg8)) shapeCasts_S1024_S1x1024 := by
  show StableHlo.after hostOps0 _ _ = _
  after_results
  rfl

theorem V_v3 (c : Dev nD) : V m c main_v3 = shapeCast S1x1024 (m ((c : Thread nD τ).loc main_arg9)) shapeCasts_S1024_S1x1024 := by
  show StableHlo.after hostOps0 _ _ = _
  after_results
  rfl

/-! ## The blocks at a point, entry by entry -/

section Blocks
variable (c : Dev nD) (t : Fin cfg0.N)

theorem blk0 (r : Fin 512) (k : Fin 512) : iblk m c 0 t (ix2 r k) = m ((c : Thread nD τ).loc main_arg0) (ix2 (row t r) k) := by
  show V m c main_arg0 ((win0_0.rect t).idx (ix2 r k)) = _
  rw [V_main_arg0]
  refine congrArg _ (Shape.idx_ext₂ ?_ ?_)
  · show win0_0.index t (0 : Fin 2) * 512 + 1 * r.val = t.val * 512 + r.val
    rw [(idx_row t).1]; show t.val * 512 + 1 * r.val = _; omega
  · show win0_0.index t (1 : Fin 2) * 512 + 1 * k.val = k.val
    rw [(idx_row t).1]; show 0 * 512 + 1 * k.val = _; omega

theorem blk1 (r : Fin 512) (k : Fin 512) : iblk m c 1 t (ix2 r k) = m ((c : Thread nD τ).loc main_arg1) (ix2 (row t r) k) := by
  show V m c main_arg1 ((win0_1.rect t).idx (ix2 r k)) = _
  rw [V_main_arg1]
  refine congrArg _ (Shape.idx_ext₂ ?_ ?_)
  · show win0_1.index t (0 : Fin 2) * 512 + 1 * r.val = t.val * 512 + r.val
    rw [(idx_row t).2.1]; show t.val * 512 + 1 * r.val = _; omega
  · show win0_1.index t (1 : Fin 2) * 512 + 1 * k.val = k.val
    rw [(idx_row t).2.1]; show 0 * 512 + 1 * k.val = _; omega

theorem blk2 (r : Fin 512) (k : Fin 512) : iblk m c 2 t (ix2 r k) = m ((c : Thread nD τ).loc main_arg2) (ix2 (row t r) k) := by
  show V m c main_arg2 ((win0_2.rect t).idx (ix2 r k)) = _
  rw [V_main_arg2]
  refine congrArg _ (Shape.idx_ext₂ ?_ ?_)
  · show win0_2.index t (0 : Fin 2) * 512 + 1 * r.val = t.val * 512 + r.val
    rw [(idx_row t).2.2.1]; show t.val * 512 + 1 * r.val = _; omega
  · show win0_2.index t (1 : Fin 2) * 512 + 1 * k.val = k.val
    rw [(idx_row t).2.2.1]; show 0 * 512 + 1 * k.val = _; omega

theorem blk3 (r : Fin 512) (d : Fin 1024) : iblk m c 3 t (ix2 r d) = m ((c : Thread nD τ).loc main_arg3) (ix2 (row t r) (col 0 d)) := by
  show V m c main_arg3 ((win0_3.rect t).idx (ix2 r d)) = _
  rw [V_main_arg3]
  refine congrArg _ (Shape.idx_ext₂ ?_ ?_)
  · show win0_3.index t (0 : Fin 2) * 512 + 1 * r.val = t.val * 512 + r.val
    rw [(idx_row t).2.2.2.1]; show t.val * 512 + 1 * r.val = _; omega
  · show win0_3.index t (1 : Fin 2) * 1024 + 1 * d.val = 4096 + 0 * 1024 + d.val
    rw [(idx_row t).2.2.2.1]; show 4 * 1024 + 1 * d.val = _; omega

theorem blk4 (r : Fin 512) (d : Fin 1024) : iblk m c 4 t (ix2 r d) = m ((c : Thread nD τ).loc main_arg3) (ix2 (row t r) (col 1 d)) := by
  show V m c main_arg3 ((win0_4.rect t).idx (ix2 r d)) = _
  rw [V_main_arg3]
  refine congrArg _ (Shape.idx_ext₂ ?_ ?_)
  · show win0_4.index t (0 : Fin 2) * 512 + 1 * r.val = t.val * 512 + r.val
    rw [(idx_row t).2.2.2.2.1]; show t.val * 512 + 1 * r.val = _; omega
  · show win0_4.index t (1 : Fin 2) * 1024 + 1 * d.val = 4096 + 1 * 1024 + d.val
    rw [(idx_row t).2.2.2.2.1]; show 5 * 1024 + 1 * d.val = _; omega

theorem blk5 (r : Fin 512) (d : Fin 1024) : iblk m c 5 t (ix2 r d) = m ((c : Thread nD τ).loc main_arg3) (ix2 (row t r) (col 2 d)) := by
  show V m c main_arg3 ((win0_5.rect t).idx (ix2 r d)) = _
  rw [V_main_arg3]
  refine congrArg _ (Shape.idx_ext₂ ?_ ?_)
  · show win0_5.index t (0 : Fin 2) * 512 + 1 * r.val = t.val * 512 + r.val
    rw [(idx_row t).2.2.2.2.2.1]; show t.val * 512 + 1 * r.val = _; omega
  · show win0_5.index t (1 : Fin 2) * 1024 + 1 * d.val = 4096 + 2 * 1024 + d.val
    rw [(idx_row t).2.2.2.2.2.1]; show 6 * 1024 + 1 * d.val = _; omega

theorem blk6 (n : Fin 3) (d : Fin 1024) : iblk m c 6 t (ix2 n d) = m ((c : Thread nD τ).loc main_arg4) (ix2 n d) := by
  show V m c main_arg4 ((win0_6.rect t).idx (ix2 n d)) = _
  rw [V_main_arg4]
  refine congrArg _ (Shape.idx_ext₂ ?_ ?_)
  · show win0_6.index t (0 : Fin 2) * 3 + 1 * n.val = n.val
    rw [(idx_whole t).1]; show 0 * 3 + 1 * n.val = _; omega
  · show win0_6.index t (1 : Fin 2) * 1024 + 1 * d.val = d.val
    rw [(idx_whole t).1]; show 0 * 1024 + 1 * d.val = _; omega

theorem blk7 (n : Fin 3) (k : Fin 512) (d : Fin 1024) :
    iblk m c 7 t (ix3 n k d) = m ((c : Thread nD τ).loc main_arg5) (ix3 n k d) := by
  show V m c main_v0 ((win0_7.rect t).idx (ix3 n k d)) = _
  rw [V_v0]
  show m ((c : Thread nD τ).loc main_arg5) _ = _
  refine congrArg _ (funext fun a => Fin.ext ?_)
  match a with
  | ⟨0, _⟩ =>
    show win0_7.index t (0 : Fin 3) * 3 + 1 * n.val = n.val
    rw [(idx_whole t).2.1]; show 0 * 3 + 1 * n.val = _; omega
  | ⟨1, _⟩ =>
    show win0_7.index t (1 : Fin 3) * 512 + 1 * k.val = k.val
    rw [(idx_whole t).2.1]; show 0 * 512 + 1 * k.val = _; omega
  | ⟨2, _⟩ =>
    show win0_7.index t (2 : Fin 3) * 1024 + 1 * d.val = d.val
    rw [(idx_whole t).2.1]; show 0 * 1024 + 1 * d.val = _; omega

theorem blk8 (k : Fin 1024) (d : Fin 1024) : iblk m c 8 t (ix2 k d) = m ((c : Thread nD τ).loc main_arg6) (ix2 k d) := by
  show V m c main_v1 ((win0_8.rect t).idx (ix2 k d)) = _
  rw [V_v1]
  show m ((c : Thread nD τ).loc main_arg6) _ = _
  refine congrArg _ (Shape.idx_ext₂ ?_ ?_)
  · show win0_8.index t (0 : Fin 2) * 1024 + 1 * k.val = k.val
    rw [(idx_whole t).2.2.1]; show 0 * 1024 + 1 * k.val = _; omega
  · show win0_8.index t (1 : Fin 2) * 1024 + 1 * d.val = d.val
    rw [(idx_whole t).2.2.1]; show 0 * 1024 + 1 * d.val = _; omega

theorem blk9 (r : Fin 512) (d : Fin 1024) : iblk m c 9 t (ix2 r d) = m ((c : Thread nD τ).loc main_arg7) (ix2 (row t r) d) := by
  show V m c main_arg7 ((win0_9.rect t).idx (ix2 r d)) = _
  rw [V_main_arg7]
  refine congrArg _ (Shape.idx_ext₂ ?_ ?_)
  · show win0_9.index t (0 : Fin 2) * 512 + 1 * r.val = t.val * 512 + r.val
    rw [(idx_row t).2.2.2.2.2.2.1]; show t.val * 512 + 1 * r.val = _; omega
  · show win0_9.index t (1 : Fin 2) * 1024 + 1 * d.val = d.val
    rw [(idx_row t).2.2.2.2.2.2.1]; show 0 * 1024 + 1 * d.val = _; omega

/-- A vector reshaped to one row, read at a column. -/
theorem cast_row (v : FVec Ideal S1024 .f32) (j : S1x1024.Idx) (d : Fin 1024) (h0 : (j 0).val = 0) (h1 : (j 1).val = d.val) :
    shapeCast S1x1024 v shapeCasts_S1024_S1x1024 j = v (ix1 d) :=
  shapeCast_apply v shapeCasts_S1024_S1x1024 j (ix1 d) (by
    rw [Shape.rowMajor_val_two, Shape.rowMajor_val_one, h0, h1]; show d.val = 0 * 1024 + d.val; omega)

theorem blk10 (d : Fin 1024) : iblk m c 10 t (ix2 0 d) = m ((c : Thread nD τ).loc main_arg8) (ix1 d) := by
  show V m c main_v2 ((win0_10.rect t).idx (ix2 0 d)) = _
  rw [V_v2]
  refine cast_row _ _ d ?_ ?_
  · show win0_10.index t (0 : Fin 2) * 1 + 1 * 0 = 0
    rw [(idx_whole t).2.2.2.1]; rfl
  · show win0_10.index t (1 : Fin 2) * 1024 + 1 * d.val = d.val
    rw [(idx_whole t).2.2.2.1]; show 0 * 1024 + 1 * d.val = _; omega

theorem blk11 (d : Fin 1024) : iblk m c 11 t (ix2 0 d) = m ((c : Thread nD τ).loc main_arg9) (ix1 d) := by
  show V m c main_v3 ((win0_11.rect t).idx (ix2 0 d)) = _
  rw [V_v3]
  refine cast_row _ _ d ?_ ?_
  · show win0_11.index t (0 : Fin 2) * 1 + 1 * 0 = 0
    rw [(idx_whole t).2.2.2.2]; rfl
  · show win0_11.index t (1 : Fin 2) * 1024 + 1 * d.val = d.val
    rw [(idx_whole t).2.2.2.2]; show 0 * 1024 + 1 * d.val = _; omega

end Blocks

/-- The first result of the reference, from the kernel's arguments. -/
def want (c : Dev nD) : FVec Ideal S16384x1024 .f32 :=
  Cert.ReferenceMergeIdeal.Read.val_main_v50 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9))

/-- The second result of the reference, from the kernel's arguments. -/
def want' (c : Dev nD) : FVec Ideal S16384x1024 .bf16 :=
  Cert.ReferenceMergeIdeal.Read.val_main_v51 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9))

/-- At the ideal values the two results hold the same numbers. -/
theorem want'_apply (c : Dev nD) (i : S16384x1024.Idx) : want' m c i = want m c i := rfl

/-- Plane `n` of the branch weights as the body reads it. -/
theorem plane (x : FVec Ideal S3x512x1024 .bf16) (n : Fin 3) (off : Fin 3 → Nat) (inb) (hoff : off = ![n.val, 0, 0]) (k : Fin 512) (d : Fin 1024) :
    View.ld (Val := Elt Ideal) (e' := .bf16) x (Rect.unit (s := S3x512x1024) off S1x512x1024.size inb) (ix3 0 k d) = x (ix3 n k d) := by
  subst hoff
  refine congrArg x (funext fun a => Fin.ext ?_)
  match a with
  | ⟨0, _⟩ => show n.val + 1 * 0 = n.val; omega
  | ⟨1, _⟩ => show 0 + 1 * k.val = k.val; omega
  | ⟨2, _⟩ => show 0 + 1 * d.val = d.val; omega

/-- Row `n` of the gates' biases as the body reads it. -/
theorem bias (x : FVec Ideal S3x1024 .f32) (n : Fin 3) (off : Fin 2 → Nat) (inb) (hoff : off = ![n.val, 0]) (d : Fin 1024) :
    View.ld (Val := Elt Ideal) (e' := .f32) x (Rect.unit (s := S3x1024) off S1x1024.size inb) (ix2 0 d) = x (ix2 n d) := by
  subst hoff
  refine congrArg x (Shape.idx_ext₂ ?_ ?_)
  · show n.val + 1 * 0 = n.val; omega
  · show 0 + 1 * d.val = d.val; omega

theorem zeros2 : (![0, 0] : Fin 2 → Nat) = fun _ => 0 := by
  funext a; match a with | ⟨0, _⟩ => rfl | ⟨1, _⟩ => rfl

/-- A whole block of a branch as the body reads it. -/
theorem ld_ins (x : FVec Ideal S512x512 .bf16) (i : S512x512.Idx) : View.ld (Val := Elt Ideal) (e' := .bf16) x r0_0 i = x i := by
  rw [View.ld_unit_zero (S := S512x512) zeros2]

/-- A whole block of gate logits as the body reads it. -/
theorem ld_gates (x : FVec Ideal S512x1024 .bf16) (i : S512x1024.Idx) : View.ld (Val := Elt Ideal) (e' := .bf16) x r0_2 i = x i := by
  rw [View.ld_unit_zero (S := S512x1024) zeros2]

theorem branch_congr {y y' w w' : Fin 512 → EReal} {z z' b b' : EReal} (hy : ∀ k, y k = y' k) (hw : ∀ k, w k = w' k)
    (hz : z = z') (hb : b = b') : branch y w z b = branch y' w' z' b' := by
  rw [funext hy, funext hw, hz, hb]

/-- The body's result at an entry of a block is the reference's there. -/
theorem body_apply (c : Dev nD) (t : Fin cfg0.N) (r : Fin 512) (d : Fin 1024) :
    out0_12 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (ix2 r d) = want m c (ix2 (row t r) d) := by
  unfold out0_12
  rw [View.canon_unit_zero zeros2]
  unfold want
  rw [ref_apply]
  refine (pay4_apply _ _ _ _ _ _ _ _ r d).trans ?_
  rw [View.ld_unit_zero (S := S1024x1024) zeros2, View.ld_unit_zero (S := S512x1024) zeros2,
    View.ld_unit_zero (S := S1x1024) zeros2, View.ld_unit_zero (S := S1x1024) zeros2]
  rw [show (iblk m c 10 t : Vec Ideal S1x1024 .f32) (ix2 0 d) = _ from blk10 m c t d,
    show (iblk m c 11 t : Vec Ideal S1x1024 .f32) (ix2 0 d) = _ from blk11 m c t d]
  refine congrArg (fun y => norm y _ _ d) ?_
  have hh : (fun k => (iblk m c 9 t : Vec Ideal S512x1024 .f32) (ix2 r k)) = fun k => m ((c : Thread nD τ).loc main_arg7) (ix2 (row t r) k) :=
    funext fun k => blk9 m c t r k
  have hw : (fun k e => (iblk m c 8 t : Vec Ideal S1024x1024 .bf16) (ix2 k e)) = fun k e => m ((c : Thread nD τ).loc main_arg6) (ix2 k e) :=
    funext fun k => funext fun e => blk8 m c t k e
  rw [hh, hw]
  refine congrArg (fun y => resid _ y _) (funext fun e => ?_)
  unfold k0_pay6 k0_pay7 k0_pay8
  rw [pay1_apply, pay2_apply]
  unfold merged part rows
  refine congrArg₂ (· + ·) (congrArg₂ (· + ·) ?_ ?_) ?_
  · exact branch_congr (fun k => (ld_ins _ _).trans (blk0 m c t r k)) (fun k => (plane _ 0 _ _ rfl k e).trans (blk7 m c t 0 k e))
      ((ld_gates _ _).trans (blk3 m c t r e)) ((bias _ 0 _ _ rfl e).trans (blk6 m c t 0 e))
  · exact branch_congr (fun k => (ld_ins _ _).trans (blk1 m c t r k)) (fun k => (plane _ 1 _ _ rfl k e).trans (blk7 m c t 1 k e))
      ((ld_gates _ _).trans (blk4 m c t r e)) ((bias _ 1 _ _ rfl e).trans (blk6 m c t 1 e))
  · exact branch_congr (fun k => (ld_ins _ _).trans (blk2 m c t r k)) (fun k => (plane _ 2 _ _ rfl k e).trans (blk7 m c t 2 k e))
      ((ld_gates _ _).trans (blk5 m c t r e)) ((bias _ 2 _ _ rfl e).trans (blk6 m c t 2 e))

/-- What a grid point writes back to the first result is its block of the reference's. -/
theorem flushed12_eq (c : Dev nD) (t : Fin cfg0.N) (_ : (cfg0.win 12).flush t = true) :
    (dats m 0 c).flushed 12 t = ((cfg0.win 12).blk t).view.read (Elt Ideal) (want m c) := by
  rw [flushed12]
  funext y
  obtain ⟨r, d, rfl⟩ : ∃ (r : Fin 512) (d : Fin 1024), y = ix2 r d := ⟨y 0, y 1, eq_ix2 y⟩
  refine (body_apply m c t r d).trans (congrArg (want m c) (Shape.idx_ext₂ ?_ ?_))
  · show t.val * 512 + r.val = win0_12.index t (0 : Fin 2) * 512 + 1 * r.val
    rw [(idx_row t).2.2.2.2.2.2.2.1]; show _ = t.val * 512 + 1 * r.val; omega
  · show d.val = win0_12.index t (1 : Fin 2) * 1024 + 1 * d.val
    rw [(idx_row t).2.2.2.2.2.2.2.1]; show _ = 0 * 1024 + 1 * d.val; omega

/-- What a grid point writes back to the second result is its block of the reference's. -/
theorem flushed13_eq (c : Dev nD) (t : Fin cfg0.N) (_ : (cfg0.win 13).flush t = true) :
    (dats m 0 c).flushed 13 t = ((cfg0.win 13).blk t).view.read (Elt Ideal) (want' m c) := by
  rw [flushed13]
  funext y
  obtain ⟨r, d, rfl⟩ : ∃ (r : Fin 512) (d : Fin 1024), y = ix2 r d := ⟨y 0, y 1, eq_ix2 y⟩
  have e := body_apply m c t r d
  unfold out0_12 at e
  rw [View.canon_unit_zero zeros2] at e
  unfold out0_13
  rw [View.canon_unit_zero zeros2]
  refine Eq.trans e (congrArg (want m c) (Shape.idx_ext₂ ?_ ?_))
  · show t.val * 512 + r.val = win0_13.index t (0 : Fin 2) * 512 + 1 * r.val
    rw [(idx_row t).2.2.2.2.2.2.2.2]; show _ = t.val * 512 + 1 * r.val; omega
  · show d.val = win0_13.index t (1 : Fin 2) * 1024 + 1 * d.val
    rw [(idx_row t).2.2.2.2.2.2.2.2]; show _ = 0 * 1024 + 1 * d.val; omega

/-- The indices of a block of the first result. -/
theorem mem_blk12 (t : Fin cfg0.N) (i : S16384x1024.Idx) :
    i ∈ ((cfg0.win 12).blk t).view.set ↔ ∀ a : Fin 2, win0_12.index t a * S512x1024.size a ≤ (i a).val
      ∧ (i a).val < win0_12.index t a * S512x1024.size a + S512x1024.size a := by
  show i ∈ ((View.whole main_v4_0).slice (win0_12.rect t)).set ↔ _
  rw [View.set_slice_whole, Rect.mem_set_unit]; exact Iff.rfl

/-- The indices of a block of the second result. -/
theorem mem_blk13 (t : Fin cfg0.N) (i : S16384x1024.Idx) :
    i ∈ ((cfg0.win 13).blk t).view.set ↔ ∀ a : Fin 2, win0_13.index t a * S512x1024.size a ≤ (i a).val
      ∧ (i a).val < win0_13.index t a * S512x1024.size a + S512x1024.size a := by
  show i ∈ ((View.whole main_v4_1).slice (win0_13.rect t)).set ↔ _
  rw [View.set_slice_whole, Rect.mem_set_unit]; exact Iff.rfl

/-- An index lies in the block of rows its first coordinate names. -/
theorem in_rows (i : S16384x1024.Idx) (a : Fin 2) :
    (![(i 0).val / 512, 0] : Fin 2 → Nat) a * S512x1024.size a ≤ (i a).val
      ∧ (i a).val < (![(i 0).val / 512, 0] : Fin 2 → Nat) a * S512x1024.size a + S512x1024.size a := by
  have h1 := idx2_lt1 i
  match a with
  | ⟨0, _⟩ =>
    show (i 0).val / 512 * 512 ≤ (i 0).val ∧ (i 0).val < (i 0).val / 512 * 512 + 512
    omega
  | ⟨1, _⟩ =>
    show 0 * 1024 ≤ (i 1).val ∧ (i 1).val < 0 * 1024 + 1024
    omega

/-- The point of the block of rows an index lies in. -/
def pt (i : S16384x1024.Idx) : Fin cfg0.N := ⟨(i 0).val / 512, by have := idx2_lt0 i; show _ < 32; omega⟩

theorem cover12 (i : S16384x1024.Idx) : ∃ t : Fin cfg0.N, (cfg0.win 12).flush t = true ∧ i ∈ ((cfg0.win 12).blk t).view.set := by
  refine ⟨pt i, flush0_12 _, ?_⟩
  rw [mem_blk12, (idx_row _).2.2.2.2.2.2.2.1]
  exact in_rows i

theorem cover13 (i : S16384x1024.Idx) : ∃ t : Fin cfg0.N, (cfg0.win 13).flush t = true ∧ i ∈ ((cfg0.win 13).blk t).view.set := by
  refine ⟨pt i, flush0_13 _, ?_⟩
  rw [mem_blk13, (idx_row _).2.2.2.2.2.2.2.2]
  exact in_rows i

/-- After the run the two results are the reference's. -/
theorem final12 (c : Dev nD) : (dats m 0 c).arrAt 12 cfg0.N = want m c :=
  (dats m 0 c).arrAt_eq_of_cover 12 _ (flushed12_eq m c) cover12

theorem final13 (c : Dev nD) : (dats m 0 c).arrAt 13 cfg0.N = want' m c :=
  (dats m 0 c).arrAt_eq_of_cover 13 _ (flushed13_eq m c) cover13

/-- The kernel and the reference end with the same two results, their arguments unchanged. -/
theorem algebraic : Cert.algebraic_KernelMergeIdeal_ReferenceMergeIdeal := fun m g m' g' _ hagree =>
  ⟨fun c => want m c, fun c => want' m c,
    (θ_run _ _ _).mono (fun r h c => ⟨(h c).1.trans (final12 m c), (h c).2.1.trans (final13 m c), (h c).2.2⟩) (run_blocks m g),
    (θ_run _ _ _).mono (fun r h c => ⟨by
        have e := (h c).1.trans (Cert.ReferenceMergeIdeal.Read.val_main_v50_eq _ _)
        obtain ⟨a0, a1, a2, a3, a4, a5, a6, a7, a8, a9⟩ := hagree c
        rw [a0, a1, a2, a3, a4, a5, a6, a7, a8, a9] at e
        exact e, by
        have e := (h c).2.1.trans (Cert.ReferenceMergeIdeal.Read.val_main_v51_eq _ _)
        obtain ⟨a0, a1, a2, a3, a4, a5, a6, a7, a8, a9⟩ := hagree c
        rw [a0, a1, a2, a3, a4, a5, a6, a7, a8, a9] at e
        exact e, (h c).2.2⟩) (Cert.ReferenceMergeIdeal.Value.run m' g')⟩

end Cert.Proof.Merge

end
-- ==== Proof.DiffChain.lean ====
/- One chain of the differential attention read at an element: what a step of the online softmax over one block of keys
   stores for one query column. -/
module

public import proofs.«01_k».proof.Proof.Gen.KernelIdeal.Skeleton
public import Idealize.ShloMosaic.Lib.ValueIdx
public import Idealize.ShloMosaic.Lib.MatmulPlain
public import Idealize.ShloMosaic.Lib.IdealHost
public import Idealize.ShloMosaic.Lib.Pipeline.Value

@[expose] public section

set_option maxRecDepth 16384

noncomputable section

namespace Cert.Proof.Diff

open Idealize.ShloMosaic Idealize.ShloMosaic.TcCoe Idealize.ShloMosaic.ValueIdx
open Cert.KernelIdeal Cert.KernelIdeal.Gen
open scoped BigOperators

/-- The state of one query column: the maximum of the scores so far, the sum of the weights, the weighted sum of the values. -/
abbrev Col := EReal × EReal × (Fin 128 → EReal)

/-- The largest of a block's scores. -/
def top (s : Fin 1024 → EReal) : EReal := Finset.univ.sup s

/-- One step of the online softmax: a block of 1024 scores and values folded into a column's state. -/
def upd (s : Fin 1024 → EReal) (v : Fin 128 → Fin 1024 → EReal) (t : Col) : Col :=
  (max t.1 (top s),
   Ideal.exp2 (t.1 - max t.1 (top s)) * t.2.1 + ∑ k, Ideal.exp2 (s k - max t.1 (top s)),
   fun d => Ideal.exp2 (t.1 - max t.1 (top s)) * t.2.2 d + ∑ k, v d k * Ideal.exp2 (s k - max t.1 (top s)))

variable (s : FVec Ideal S1024x256 .f32) (m l : Vec Ideal S1x1x256 .f32) (j : Fin 256)

/-- The maximum over the keys of a block's scores, at a column. -/
theorem max_apply :
    multiReduction .maximumf [0] S256 s 0xFF800000#32 reduces_S1024x256_S256 (.inl rfl) rfl (ix1 j)
      = top (fun k => s (ix2 k j)) := by
  refine (Ideal.multiReduction_maximumf_single s _ _ _ _ (ix1 j)).trans ?_
  have e : (FloatOps.ofBits (F := Ideal) .f32 0xFF800000#32 : EReal) = ⊥ := by
    show Ideal.ofBits .f32 0xFF800000#32 = ⊥
    simp [Ideal.ofBits, Ideal.ieee]
  have hl : ∀ k : Fin 1024, reduces_S1024x256_S256.lift (ix1 j) k = ix2 k j := fun k => by
    funext a; apply Fin.ext
    match a with
    | ⟨0, _⟩ => rfl
    | ⟨1, _⟩ => rfl
  rw [e]
  unfold top Finset.sup
  exact congrArg (fun f => Finset.univ.fold max ⊥ f) (funext fun k => congrArg s (hl k))

/-- The sum over the keys of a block, at a column. -/
theorem sum_apply (x : FVec Ideal S1024x256 .f32) :
    multiReduction .add [0] S256 x 0x00000000#32 reduces_S1024x256_S256 (.inl rfl) rfl (ix1 j)
      = ∑ k : Fin 1024, x (ix2 k j) := by
  refine (Ideal.multiReduction_add_single x _ _ _ _ (ix1 j)).trans ?_
  refine Finset.sum_congr rfl fun k _ => congrArg x ?_
  funext a; apply Fin.ext
  match a with
  | ⟨0, _⟩ => rfl
  | ⟨1, _⟩ => rfl

theorem row_apply (x : FVec Ideal S256 .f32) : shapeCast S1x256 x shapeCasts_S256_S1x256 (ix2 0 j) = x (ix1 j) :=
  shapeCast_apply x shapeCasts_S256_S1x256 (ix2 0 j) (ix1 j) (by
    rw [Shape.rowMajor_val_two, Shape.rowMajor_val_one]; show j.val = 0 * 256 + j.val; omega)

theorem flat_apply (x : Vec Ideal S1x1x256 .f32) :
    shapeCast S1x256 x shapeCasts_S1x1x256_S1x256 (ix2 0 j) = x (ix3 0 0 j) :=
  shapeCast_apply x shapeCasts_S1x1x256_S1x256 (ix2 0 j) (ix3 0 0 j) (by
    rw [Shape.rowMajor_val_two, Shape.rowMajor_val_three]; show (0 * 1 + 0) * 256 + j.val = 0 * 256 + j.val; omega)

theorem unflat_apply (x : FVec Ideal S1x256 .f32) :
    shapeCast S1x1x256 x shapeCasts_S1x256_S1x1x256 (ix3 0 0 j) = x (ix2 0 j) :=
  shapeCast_apply x shapeCasts_S1x256_S1x1x256 (ix3 0 0 j) (ix2 0 j) (by
    rw [Shape.rowMajor_val_two, Shape.rowMajor_val_three]; show 0 * 256 + j.val = (0 * 1 + 0) * 256 + j.val; omega)

theorem newMax_apply : k0_pay21 s m (ix2 0 j) = max (m (ix3 0 0 j)) (top fun k => s (ix2 k j)) := by
  show max (shapeCast S1x256 m shapeCasts_S1x1x256_S1x256 (ix2 0 j)) (shapeCast S1x256 _ shapeCasts_S256_S1x256 (ix2 0 j)) = _
  rw [flat_apply, row_apply, max_apply]

/-- The maximum a chain stores. -/
theorem pay25_apply : k0_pay25 s m (ix3 0 0 j) = max (m (ix3 0 0 j)) (top fun k => s (ix2 k j)) := by
  show shapeCast S1x1x256 (k0_pay21 s m) shapeCasts_S1x256_S1x1x256 (ix3 0 0 j) = _
  rw [unflat_apply, newMax_apply]

/-- The factor the old sums are scaled by. -/
theorem pay22_apply :
    k0_pay22 s m (ix2 0 j) = Ideal.exp2 (m (ix3 0 0 j) - max (m (ix3 0 0 j)) (top fun k => s (ix2 k j))) := by
  show Ideal.exp2 (shapeCast S1x256 m shapeCasts_S1x1x256_S1x256 (ix2 0 j) - k0_pay21 s m (ix2 0 j)) = _
  rw [flat_apply, newMax_apply]

/-- The weight of a key. -/
theorem pay23_apply (k : Fin 1024) :
    k0_pay23 s m (ix2 k j) = Ideal.exp2 (s (ix2 k j) - max (m (ix3 0 0 j)) (top fun k => s (ix2 k j))) := by
  show Ideal.exp2 (s (ix2 k j) - broadcastTo S1024x256 (k0_pay21 s m) broadcasts_S1x256_S1024x256 (ix2 k j)) = _
  rw [broadcastTo_apply _ _ _ (ix2 0 j) (fun a => match a with | ⟨0, _⟩ => rfl | ⟨1, _⟩ => rfl), newMax_apply]

/-- The sum of weights a chain stores. -/
theorem pay24_apply : k0_pay24 s m l (ix3 0 0 j)
    = Ideal.exp2 (m (ix3 0 0 j) - max (m (ix3 0 0 j)) (top fun k => s (ix2 k j))) * l (ix3 0 0 j)
      + ∑ k, Ideal.exp2 (s (ix2 k j) - max (m (ix3 0 0 j)) (top fun k => s (ix2 k j))) := by
  unfold k0_pay24
  dsimp only
  rw [unflat_apply]
  show k0_pay22 s m (ix2 0 j) * shapeCast S1x256 l shapeCasts_S1x1x256_S1x256 (ix2 0 j)
    + shapeCast S1x256 _ shapeCasts_S256_S1x256 (ix2 0 j) = _
  rw [flat_apply, row_apply, sum_apply, pay22_apply]
  exact congrArg _ (Finset.sum_congr rfl fun k _ => pay23_apply s m j k)

/-- The weighted sum of values a chain stores. -/
theorem pay80_apply (v : FVec Ideal S128x1024 .bf16) (a : Vec Ideal S1x128x256 .f32) (d : Fin 128) :
    k0_pay80 v (k0_pay22 s m) (k0_pay26 s m) a (ix3 0 d j)
    = Ideal.exp2 (m (ix3 0 0 j) - max (m (ix3 0 0 j)) (top fun k => s (ix2 k j))) * a (ix3 0 d j)
      + ∑ k, v (ix2 d k) * Ideal.exp2 (s (ix2 k j) - max (m (ix3 0 0 j)) (top fun k => s (ix2 k j))) := by
  have e := Ideal.matmul_plain_apply (φ₁ := .bf16) (φ₂ := .bf16) none v (k0_pay26 s m) (constant S128x256 .f32 0x00000000#32) d j
  rw [constant_apply, Ideal.ofBits_zero_f32, zero_add] at e
  unfold k0_pay80
  refine (shapeCast_apply _ shapeCasts_S128x256_S1x128x256 (ix3 0 d j) (ix2 d j) (by
    rw [Shape.rowMajor_val_two, Shape.rowMajor_val_three]; show d.val * 256 + j.val = (0 * 128 + d.val) * 256 + j.val; omega)).trans ?_
  refine (addf_apply _ _ _).trans (congrArg₂ _ ((mulf_apply _ _ _).trans (congrArg₂ _ ?_ ?_)) (e.trans ?_))
  · rw [broadcastTo_apply _ _ _ (ix2 0 j) (fun a => match a with | ⟨0, _⟩ => rfl | ⟨1, _⟩ => rfl), pay22_apply]
  · exact shapeCast_apply a shapeCasts_S1x128x256_S128x256 (ix2 d j) (ix3 0 d j) (by
      rw [Shape.rowMajor_val_two, Shape.rowMajor_val_three]; show (0 * 128 + d.val) * 256 + j.val = d.val * 256 + j.val; omega)
  · exact Finset.sum_congr rfl fun k _ => congrArg (v (ix2 d k) * ·) (pay23_apply s m j k)

end Cert.Proof.Diff

end

end
-- ==== Proof.DiffLists.lean ====
/- The stores of one block of keys into the three accumulators: eight chains (two maps, four groups of 256 query columns), each
   reading its own part back and storing it again. Their effect on a column is one step of the online softmax. -/
module

public import proofs.«01_k».proof.Proof.DiffChain
public import Idealize.ShloMosaic.Lib.Exec
public import Idealize.ShloMosaic.Lib.Pipeline.Kit

@[expose] public section

set_option maxRecDepth 16384

noncomputable section

namespace Cert.Proof.Diff

open Idealize.ShloMosaic Idealize.ShloMosaic.TcCoe Idealize.ShloMosaic.ValueIdx
open Cert.KernelIdeal Cert.KernelIdeal.Gen
open scoped BigOperators

/-- The stores into the maxima or the sums, last first. -/
abbrev Rows := List (View.Piece (Elt Ideal) S2x1x1024 .f32)
/-- The stores into the weighted sums of the values, last first. -/
abbrev Accs := List (View.Piece (Elt Ideal) S2x128x1024 .f32)

/-- The part of the maxima and of the sums that chain `c` holds: map `c % 2`, columns from `256 (c / 2)`. -/
abbrev cr (c : ℕ) : Rect S2x1x1024 :=
  Rect.unit ![c % 2, 0, 256 * (c / 2 % 4)] S1x1x256.size (fun a => match a with
    | ⟨0, _⟩ => by show c % 2 + 1 ≤ 2; omega
    | ⟨1, _⟩ => by show 0 + 1 ≤ 1; omega
    | ⟨2, _⟩ => by show 256 * (c / 2 % 4) + 256 ≤ 1024; omega)

/-- The part of the weighted sums that chain `c` holds. -/
abbrev ca (c : ℕ) : Rect S2x128x1024 :=
  Rect.unit ![c % 2, 0, 256 * (c / 2 % 4)] S1x128x256.size (fun a => match a with
    | ⟨0, _⟩ => by show c % 2 + 1 ≤ 2; omega
    | ⟨1, _⟩ => by show 0 + 128 ≤ 128; omega
    | ⟨2, _⟩ => by show 256 * (c / 2 % 4) + 256 ≤ 1024; omega)

variable (s : ℕ → FVec Ideal S1024x256 .f32) (v : FVec Ideal S128x1024 .bf16)
  (rM rL : ℕ → Rows → Vec Ideal S1x1x256 .f32) (rA : ℕ → Accs → Vec Ideal S1x128x256 .f32) (M0 L0 : Rows) (A0 : Accs)

/-- The stores of the maxima, chain after chain, over the stores `M0`; `rM` reads a chain's part back. -/
def mList : ℕ → Rows
  | 0 => M0
  | n + 1 => ⟨cr n, k0_pay25 (s n) (rM n (mList n))⟩ :: mList n

/-- The stores of the sums. -/
def lList : ℕ → Rows
  | 0 => L0
  | n + 1 => ⟨cr n, k0_pay24 (s n) (rM n (mList s rM M0 n)) (rL n (lList n))⟩ :: lList n

/-- The stores of the weighted sums. -/
def aList : ℕ → Accs
  | 0 => A0
  | n + 1 => ⟨ca n, k0_pay80 v (k0_pay22 (s n) (rM n (mList s rM M0 n))) (k0_pay26 (s n) (rM n (mList s rM M0 n)))
      (rA n (aList n))⟩ :: aList n

/-! ## What a list of one store per chain leaves -/

section Generic

variable {S : Shape} (R : ℕ → Rect S) (w : (n : ℕ) → (R n).shape.Idx → Elt Ideal .f32) (L : ℕ → List (View.Piece (Elt Ideal) S .f32))
  (hL : ∀ n, L (n + 1) = ⟨R n, w n⟩ :: L n)

include hL in
/-- An index none of the chains' parts holds keeps what was there. -/
theorem canon_off (n : ℕ) (y : S.Idx) (h : ∀ k < n, y ∉ (R k).set) : View.canon (L n) y = View.canon (L 0) y := by
  induction n with
  | zero => rfl
  | succ n ih =>
    rw [hL, View.canon_cons_of_not_mem _ _ (h n (Nat.lt_succ_self n))]
    exact ih fun k hk => h k (Nat.lt_succ_of_lt hk)

include hL in
/-- An index of one chain's part, the parts disjoint, holds what that chain stored. -/
theorem canon_on (N : ℕ) (hd : ∀ k n, k < n → n < N → ∀ x, (R k).emb x ∉ (R n).set) (n : ℕ) (hn : n ≤ N) (k : ℕ) (hk : k < n)
    (x : (R k).shape.Idx) : View.canon (L n) ((R k).emb x) = w k x := by
  induction n with
  | zero => exact absurd hk (Nat.not_lt_zero k)
  | succ n ih =>
    rw [hL]
    rcases Nat.lt_succ_iff_lt_or_eq.mp hk with h | rfl
    · rw [View.canon_cons_of_not_mem _ _ (hd k n h hn x)]; exact ih (Nat.le_of_succ_le hn) h
    · exact View.canon_cons_emb _ _ _ x

include hL in
/-- Every chain's part is held by a store. -/
theorem mem_list (n k : ℕ) (hk : k < n) (y : S.Idx) (hy : y ∈ (R k).set) : ∃ p ∈ L n, y ∈ p.1.set := by
  induction n with
  | zero => exact absurd hk (Nat.not_lt_zero k)
  | succ n ih =>
    rw [hL]
    rcases Nat.lt_succ_iff_lt_or_eq.mp hk with h | rfl
    · obtain ⟨p, hp, hy⟩ := ih h
      exact ⟨p, List.mem_cons_of_mem _ hp, hy⟩
    · exact ⟨_, List.mem_cons_self, hy⟩

/-- Stores that hold an index hide the earlier ones there. -/
theorem canon_append (L K : List (View.Piece (Elt Ideal) S .f32)) (y : S.Idx) (h : ∃ p ∈ L, y ∈ p.1.set) :
    View.canon (L ++ K) y = View.canon L y := by
  induction L with
  | nil => obtain ⟨_, hp, _⟩ := h; exact absurd hp List.not_mem_nil
  | cons q L ih =>
    obtain ⟨r, w⟩ := q
    by_cases hy : y ∈ r.set
    · obtain ⟨x, rfl⟩ : ∃ x, r.emb x = y := r.exists_idx_of_mem hy
      rw [List.cons_append, View.canon_cons_emb, View.canon_cons_emb]
    · rw [List.cons_append, View.canon_cons_of_not_mem _ _ hy, View.canon_cons_of_not_mem _ _ hy]
      refine ih ?_
      obtain ⟨p, hp, hp'⟩ := h
      rcases List.mem_cons.mp hp with rfl | hp
      · exact absurd hp' hy
      · exact ⟨p, hp, hp'⟩

end Generic

/-! ## The chains' parts -/

theorem emb_mem {S : Shape} (R : Rect S) (x : R.shape.Idx) : R.emb x ∈ R.set := R.idx_mem x

theorem mem_cr {c : ℕ} {y : S2x1x1024.Idx} :
    y ∈ (cr c).set ↔ (y 0).val = c % 2 ∧ 256 * (c / 2 % 4) ≤ (y 2).val ∧ (y 2).val < 256 * (c / 2 % 4) + 256 := by
  rw [Rect.mem_set_unit]
  refine ⟨fun h => ?_, fun h a => ?_⟩
  · have h0 : c % 2 ≤ (y 0).val ∧ (y 0).val < c % 2 + 1 := h 0
    have h2 : 256 * (c / 2 % 4) ≤ (y 2).val ∧ (y 2).val < 256 * (c / 2 % 4) + 256 := h 2
    exact ⟨by omega, h2⟩
  · match a with
    | ⟨0, _⟩ => show c % 2 ≤ (y 0).val ∧ (y 0).val < c % 2 + 1; omega
    | ⟨1, _⟩ => show 0 ≤ (y 1).val ∧ (y 1).val < 0 + 1; have : (y 1).val < 1 := (y 1).isLt; omega
    | ⟨2, _⟩ => exact h.2

theorem mem_ca {c : ℕ} {y : S2x128x1024.Idx} :
    y ∈ (ca c).set ↔ (y 0).val = c % 2 ∧ 256 * (c / 2 % 4) ≤ (y 2).val ∧ (y 2).val < 256 * (c / 2 % 4) + 256 := by
  rw [Rect.mem_set_unit]
  refine ⟨fun h => ?_, fun h a => ?_⟩
  · have h0 : c % 2 ≤ (y 0).val ∧ (y 0).val < c % 2 + 1 := h 0
    have h2 : 256 * (c / 2 % 4) ≤ (y 2).val ∧ (y 2).val < 256 * (c / 2 % 4) + 256 := h 2
    exact ⟨by omega, h2⟩
  · match a with
    | ⟨0, _⟩ => show c % 2 ≤ (y 0).val ∧ (y 0).val < c % 2 + 1; omega
    | ⟨1, _⟩ => show 0 ≤ (y 1).val ∧ (y 1).val < 0 + 128; have : (y 1).val < 128 := (y 1).isLt; omega
    | ⟨2, _⟩ => exact h.2

theorem disj_cr (k n : ℕ) (h : k < n) (hn : n < 8) (x) : (cr k).emb x ∉ (cr n).set := fun hx => by
  have h1 := mem_cr.mp hx
  have h2 := mem_cr.mp (emb_mem (cr k) x)
  omega

theorem disj_ca (k n : ℕ) (h : k < n) (hn : n < 8) (x) : (ca k).emb x ∉ (ca n).set := fun hx => by
  have h1 := mem_ca.mp hx
  have h2 := mem_ca.mp (emb_mem (ca k) x)
  omega

theorem disj_cr' (k n : ℕ) (h : k < n) (hn : n < 8) (x) : (cr n).emb x ∉ (cr k).set := fun hx => by
  have h1 := mem_cr.mp hx
  have h2 := mem_cr.mp (emb_mem (cr n) x)
  omega

theorem disj_ca' (k n : ℕ) (h : k < n) (hn : n < 8) (x) : (ca n).emb x ∉ (ca k).set := fun hx => by
  have h1 := mem_ca.mp hx
  have h2 := mem_ca.mp (emb_mem (ca n) x)
  omega

/-- The chain of a map's column. -/
def chainOf (mp : Fin 2) (q : Fin 1024) : ℕ := 2 * (q.val / 256) + mp.val

theorem chainOf_lt (mp : Fin 2) (q : Fin 1024) : chainOf mp q < 8 := by
  unfold chainOf; have := mp.isLt; have := q.isLt; omega

/-- A column within its chain. -/
def within (q : Fin 1024) : Fin 256 := ⟨q.val % 256, Nat.mod_lt _ (by decide)⟩

theorem cr_emb (mp : Fin 2) (q : Fin 1024) : (cr (chainOf mp q)).emb (ix3 0 0 (within q)) = ix3 mp 0 q := by
  have := mp.isLt; have := q.isLt
  funext a; apply Fin.ext
  match a with
  | ⟨0, _⟩ => show chainOf mp q % 2 + 1 * 0 = mp.val; unfold chainOf; omega
  | ⟨1, _⟩ => rfl
  | ⟨2, _⟩ => show 256 * (chainOf mp q / 2 % 4) + 1 * (q.val % 256) = q.val; unfold chainOf; omega

theorem ca_emb (mp : Fin 2) (d : Fin 128) (q : Fin 1024) :
    (ca (chainOf mp q)).emb (ix3 0 d (within q)) = ix3 mp d q := by
  have := mp.isLt; have := q.isLt
  funext a; apply Fin.ext
  match a with
  | ⟨0, _⟩ => show chainOf mp q % 2 + 1 * 0 = mp.val; unfold chainOf; omega
  | ⟨1, _⟩ => show 0 + 1 * d.val = d.val; omega
  | ⟨2, _⟩ => show 256 * (chainOf mp q / 2 % 4) + 1 * (q.val % 256) = q.val; unfold chainOf; omega

/-- A column's state in three buffers. -/
def col (M L : S2x1x1024.Idx → EReal) (A : S2x128x1024.Idx → EReal) (mp : Fin 2) (q : Fin 1024) : Col :=
  (M (ix3 mp 0 q), L (ix3 mp 0 q), fun d => A (ix3 mp d q))

/-- A chain's read-back finds what the buffer held before the block. -/
def Reads (X : S2x1x1024.Idx → EReal) (r : ℕ → Rows → Vec Ideal S1x1x256 .f32) (L : ℕ → Rows) : Prop :=
  ∀ n < 8, ∀ x, r n (L n) x = X ((cr n).emb x)

/-- A chain's read-back of the weighted sums finds what the buffer held before the block. -/
def ReadsA (X : S2x128x1024.Idx → EReal) (r : ℕ → Accs → Vec Ideal S1x128x256 .f32) (L : ℕ → Accs) : Prop :=
  ∀ n < 8, ∀ x, r n (L n) x = X ((ca n).emb x)

/-- A chain's maxima after its block. -/
theorem block_max (M : S2x1x1024.Idx → EReal) (hM : Reads M rM (mList s rM M0)) (c : ℕ) (hc : c < 8) (j : Fin 256) :
    View.canon (mList s rM M0 8) ((cr c).emb (ix3 0 0 j))
      = max (M ((cr c).emb (ix3 0 0 j))) (top fun k => s c (ix2 k j)) := by
  rw [canon_on cr (fun n => k0_pay25 (s n) (rM n (mList s rM M0 n))) (mList s rM M0) (fun _ => rfl) 8 disj_cr 8
    (le_refl _) c hc (ix3 0 0 j), ← hM c hc (ix3 0 0 j)]
  exact pay25_apply (s c) (rM c (mList s rM M0 c)) j

/-- A chain's sums after its block. -/
theorem block_sum (M L : S2x1x1024.Idx → EReal) (hM : Reads M rM (mList s rM M0)) (hL : Reads L rL (lList s rM rL M0 L0))
    (c : ℕ) (hc : c < 8) (j : Fin 256) :
    View.canon (lList s rM rL M0 L0 8) ((cr c).emb (ix3 0 0 j))
      = Ideal.exp2 (M ((cr c).emb (ix3 0 0 j)) - max (M ((cr c).emb (ix3 0 0 j))) (top fun k => s c (ix2 k j)))
          * L ((cr c).emb (ix3 0 0 j))
        + ∑ k, Ideal.exp2 (s c (ix2 k j) - max (M ((cr c).emb (ix3 0 0 j))) (top fun k => s c (ix2 k j))) := by
  rw [canon_on cr (fun n => k0_pay24 (s n) (rM n (mList s rM M0 n)) (rL n (lList s rM rL M0 L0 n))) (lList s rM rL M0 L0)
    (fun _ => rfl) 8 disj_cr 8 (le_refl _) c hc (ix3 0 0 j), ← hM c hc (ix3 0 0 j), ← hL c hc (ix3 0 0 j)]
  exact pay24_apply (s c) (rM c (mList s rM M0 c)) (rL c (lList s rM rL M0 L0 c)) j

/-- A chain's weighted sums of the values after its block. -/
theorem block_acc (M : S2x1x1024.Idx → EReal) (A : S2x128x1024.Idx → EReal) (hM : Reads M rM (mList s rM M0))
    (hA : ReadsA A rA (aList s v rM rA M0 A0)) (c : ℕ) (hc : c < 8) (d : Fin 128) (j : Fin 256) :
    View.canon (aList s v rM rA M0 A0 8) ((ca c).emb (ix3 0 d j))
      = Ideal.exp2 (M ((cr c).emb (ix3 0 0 j)) - max (M ((cr c).emb (ix3 0 0 j))) (top fun k => s c (ix2 k j)))
          * A ((ca c).emb (ix3 0 d j))
        + ∑ k, v (ix2 d k) * Ideal.exp2 (s c (ix2 k j) - max (M ((cr c).emb (ix3 0 0 j))) (top fun k => s c (ix2 k j))) := by
  rw [canon_on ca (fun n => k0_pay80 v (k0_pay22 (s n) (rM n (mList s rM M0 n))) (k0_pay26 (s n) (rM n (mList s rM M0 n)))
    (rA n (aList s v rM rA M0 A0 n))) (aList s v rM rA M0 A0) (fun _ => rfl) 8 disj_ca 8 (le_refl _) c hc (ix3 0 d j),
    ← hM c hc (ix3 0 0 j), ← hA c hc (ix3 0 d j)]
  exact pay80_apply (s c) (rM c (mList s rM M0 c)) j v (rA c (aList s v rM rA M0 A0 c)) d

/-- THE BLOCK: after its eight chains each column has taken one step of the online softmax. -/
theorem block (M L : S2x1x1024.Idx → EReal) (A : S2x128x1024.Idx → EReal)
    (hM : Reads M rM (mList s rM M0)) (hL : Reads L rL (lList s rM rL M0 L0))
    (hA : ReadsA A rA (aList s v rM rA M0 A0)) (mp : Fin 2) (q : Fin 1024) :
    col (View.canon (mList s rM M0 8)) (View.canon (lList s rM rL M0 L0 8)) (View.canon (aList s v rM rA M0 A0 8)) mp q
      = upd (fun k => s (chainOf mp q) (ix2 k (within q))) (fun d k => v (ix2 d k)) (col M L A mp q) := by
  have hc := chainOf_lt mp q
  have em := block_max s rM M0 M hM _ hc (within q)
  have el := block_sum s rM rL M0 L0 M L hM hL _ hc (within q)
  have ea := fun d => block_acc s v rM rA M0 A0 M A hM hA _ hc d (within q)
  have e1 := cr_emb mp q
  have e2 := fun d => ca_emb mp d q
  rw [e1] at em el
  simp only [e1, e2] at ea
  unfold col upd
  dsimp only
  rw [em, el]
  simp only [ea]

end Cert.Proof.Diff

end

end
-- ==== Proof.DiffTrip.lean ====
module

public import proofs.«01_k».proof.Proof.DiffLists
public import proofs.«01_k».proof.Proof.Gen.KernelIdeal.Loops

@[expose] public section

/-! # The loop of the differential attention

One trip of the loop folds two blocks of 1024 keys into each column's state, so `n` trips fold `2 n` blocks. -/

set_option maxRecDepth 100000
set_option maxHeartbeats 1000000

noncomputable section

namespace Cert.Proof.Diff

open Idealize.ShloMosaic Idealize.ShloMosaic.TcCoe Idealize.ShloMosaic.ValueIdx
open Cert.KernelIdeal Cert.KernelIdeal.Gen

/-! ## A block over the stores that came before it -/

theorem cover_m (s : ℕ → FVec Ideal S1024x256 .f32) (rM : ℕ → Rows → Vec Ideal S1x1x256 .f32) (M0 : Rows) (y : S2x1x1024.Idx) :
    ∃ p ∈ mList s rM M0 8, y ∈ p.1.set := by
  have h0 : (y 0).val < 2 := (y 0).isLt
  have h2 : (y 2).val < 1024 := (y 2).isLt
  refine mem_list cr (fun n => k0_pay25 (s n) (rM n (mList s rM M0 n))) (mList s rM M0) (fun _ => rfl) 8
    (2 * ((y 2).val / 256) + (y 0).val) (by omega) y (mem_cr.mpr ?_)
  omega

theorem cover_l (s : ℕ → FVec Ideal S1024x256 .f32) (rM rL : ℕ → Rows → Vec Ideal S1x1x256 .f32) (M0 L0 : Rows)
    (y : S2x1x1024.Idx) : ∃ p ∈ lList s rM rL M0 L0 8, y ∈ p.1.set := by
  have h0 : (y 0).val < 2 := (y 0).isLt
  have h2 : (y 2).val < 1024 := (y 2).isLt
  refine mem_list cr (fun n => k0_pay24 (s n) (rM n (mList s rM M0 n)) (rL n (lList s rM rL M0 L0 n))) (lList s rM rL M0 L0)
    (fun _ => rfl) 8 (2 * ((y 2).val / 256) + (y 0).val) (by omega) y (mem_cr.mpr ?_)
  omega

theorem cover_a (s : ℕ → FVec Ideal S1024x256 .f32) (v : FVec Ideal S128x1024 .bf16) (rM : ℕ → Rows → Vec Ideal S1x1x256 .f32)
    (rA : ℕ → Accs → Vec Ideal S1x128x256 .f32) (M0 : Rows) (A0 : Accs) (y : S2x128x1024.Idx) :
    ∃ p ∈ aList s v rM rA M0 A0 8, y ∈ p.1.set := by
  have h0 : (y 0).val < 2 := (y 0).isLt
  have h2 : (y 2).val < 1024 := (y 2).isLt
  refine mem_list ca (fun n => k0_pay80 v (k0_pay22 (s n) (rM n (mList s rM M0 n))) (k0_pay26 (s n) (rM n (mList s rM M0 n)))
    (rA n (aList s v rM rA M0 A0 n))) (aList s v rM rA M0 A0)
    (fun _ => rfl) 8 (2 * ((y 2).val / 256) + (y 0).val) (by omega) y (mem_ca.mpr ?_)
  omega

section Over

variable (s : ℕ → FVec Ideal S1024x256 .f32) (v : FVec Ideal S128x1024 .bf16)
  (b9 b10 : Memref sig .tc .vmem S2x1x1024 .f32) (b11 : Memref sig .tc .vmem S2x128x1024 .f32)
  (M0 L0 : Rows) (A0 : Accs)

/-- A chain's part of a buffer, read back from the stores made so far. -/
abbrev covM (b : Memref sig .tc .vmem S2x1x1024 .f32) (n : ℕ) (L : Rows) : Vec Ideal S1x1x256 .f32 :=
  b.view.readCov L (cr n).toLoadRect
abbrev covA (b : Memref sig .tc .vmem S2x128x1024 .f32) (n : ℕ) (L : Accs) : Vec Ideal S1x128x256 .f32 :=
  b.view.readCov L (ca n).toLoadRect

/-- A block over earlier stores takes each column from what they left one step on. -/
theorem block_cov (mp : Fin 2) (q : Fin 1024) :
    col (View.canon (mList s (covM b9) M0 8)) (View.canon (lList s (covM b9) (covM b10) M0 L0 8))
        (View.canon (aList s v (covM b9) (covA b11) M0 A0 8)) mp q
      = upd (fun k => s (chainOf mp q) (ix2 k (within q))) (fun d k => v (ix2 d k))
          (col (View.canon M0) (View.canon L0) (View.canon A0) mp q) := by
  refine block s v (covM b9) (covM b10) (covA b11) M0 L0 A0 _ _ _ ?_ ?_ ?_ mp q
  · intro n hn x
    refine (congrFun (View.readCov_eq_canon' b9.view (mList s (covM b9) M0 n) (cr n).toLoadRect) x).trans ?_
    exact canon_off cr (fun n => k0_pay25 (s n) (covM b9 n (mList s (covM b9) M0 n))) (mList s (covM b9) M0) (fun _ => rfl) n _
      fun k hk => disj_cr' k n hk hn x
  · intro n hn x
    refine (congrFun (View.readCov_eq_canon' b10.view (lList s (covM b9) (covM b10) M0 L0 n) (cr n).toLoadRect) x).trans ?_
    exact canon_off cr (fun n => k0_pay24 (s n) (covM b9 n (mList s (covM b9) M0 n)) (covM b10 n (lList s (covM b9) (covM b10) M0 L0 n)))
      (lList s (covM b9) (covM b10) M0 L0) (fun _ => rfl) n _
      fun k hk => disj_cr' k n hk hn x
  · intro n hn x
    refine (congrFun (View.readCov_eq_canon' b11.view (aList s v (covM b9) (covA b11) M0 A0 n) (ca n).toLoadRect) x).trans ?_
    exact canon_off ca (fun n => k0_pay80 v (k0_pay22 (s n) (covM b9 n (mList s (covM b9) M0 n)))
      (k0_pay26 (s n) (covM b9 n (mList s (covM b9) M0 n))) (covA b11 n (aList s v (covM b9) (covA b11) M0 A0 n)))
      (aList s v (covM b9) (covA b11) M0 A0) (fun _ => rfl) n _
      fun k hk => disj_ca' k n hk hn x

variable (f9 : BufTy.Contents (Elt Ideal) b9.view.ty) (f10 : BufTy.Contents (Elt Ideal) b10.view.ty)
  (f11 : BufTy.Contents (Elt Ideal) b11.view.ty)

/-- A chain's part of a buffer, read from what the buffer held before. -/
abbrev atM (b : Memref sig .tc .vmem S2x1x1024 .f32) (f : BufTy.Contents (Elt Ideal) b.view.ty) (n : ℕ) (_ : Rows) :
    Vec Ideal S1x1x256 .f32 := View.readAt (Elt Ideal) b.view (cr n).toLoadRect f
abbrev atA (b : Memref sig .tc .vmem S2x128x1024 .f32) (f : BufTy.Contents (Elt Ideal) b.view.ty) (n : ℕ) (_ : Accs) :
    Vec Ideal S1x128x256 .f32 := View.readAt (Elt Ideal) b.view (ca n).toLoadRect f

/-- A trip's first block, whose reads find what the buffers held before it. -/
theorem block_at (mp : Fin 2) (q : Fin 1024) :
    col (View.canon (mList s (atM b9 f9) M0 8)) (View.canon (lList s (atM b9 f9) (atM b10 f10) M0 L0 8))
        (View.canon (aList s v (atM b9 f9) (atA b11 f11) M0 A0 8)) mp q
      = upd (fun k => s (chainOf mp q) (ix2 k (within q))) (fun d k => v (ix2 d k))
          (col (b9.view.read (Elt Ideal) f9) (b10.view.read (Elt Ideal) f10) (b11.view.read (Elt Ideal) f11) mp q) :=
  block s v (atM b9 f9) (atM b10 f10) (atA b11 f11) M0 L0 A0 _ _ _ (fun _ _ _ => rfl) (fun _ _ _ => rfl) (fun _ _ _ => rfl) mp q

end Over

/-- Three lists of stores that hold every index of their buffers. -/
def Full (T : Rows × Rows × Accs) : Prop :=
  (∀ y, ∃ p ∈ T.1, y ∈ p.1.set) ∧ (∀ y, ∃ p ∈ T.2.1, y ∈ p.1.set) ∧ ∀ y, ∃ p ∈ T.2.2, y ∈ p.1.set

/-- They hide the stores before them. -/
theorem col_append (T : Rows × Rows × Accs) (h : Full T) (M L : Rows) (A : Accs) (mp : Fin 2) (q : Fin 1024) :
    col (View.canon (T.1 ++ M)) (View.canon (T.2.1 ++ L)) (View.canon (T.2.2 ++ A)) mp q
      = col (View.canon T.1) (View.canon T.2.1) (View.canon T.2.2) mp q := by
  have e1 : View.canon (T.1 ++ M) = View.canon T.1 := funext fun y => canon_append _ _ y (h.1 y)
  have e2 : View.canon (T.2.1 ++ L) = View.canon T.2.1 := funext fun y => canon_append _ _ y (h.2.1 y)
  have e3 : View.canon (T.2.2 ++ A) = View.canon T.2.2 := funext fun y => canon_append _ _ y (h.2.2 y)
  rw [e1, e2, e3]

/-! ## The scores -/

/-- A chain's slice of the queries: those of its map, 256 of them. -/
abbrev qs (v5 v9 : Vec Ideal S1024x128 .bf16) (n : ℕ) : FVec Ideal S256x128 .bf16 :=
  extractStridedSlice S256x128 ![256 * (n / 2 % 4), 0] (if n % 2 = 0 then v5 else v9) ⟨rfl, fun a => match a with
    | ⟨0, _⟩ => by show 256 * (n / 2 % 4) + 256 ≤ 1024; omega
    | ⟨1, _⟩ => by show 0 + 128 ≤ 128; omega⟩

/-- A chain's scores: keys down, queries across. -/
abbrev sc (kb : FVec Ideal S1024x128 .bf16) (v5 v9 : Vec Ideal S1024x128 .bf16) (n : ℕ) : FVec Ideal S1024x256 .f32 :=
  matmul dot_S1024x128_S256x128_S1024x256_1_1_0_0_n_n none kb (qs v5 v9 n) (constant S1024x256 .f32 0x00000000#32)

/-- A column's score against a key: the product of the key and the query over the 128 lanes. -/
theorem sc_apply (kb : FVec Ideal S1024x128 .bf16) (v5 v9 : Vec Ideal S1024x128 .bf16) (mp : Fin 2) (q : Fin 1024) (k : Fin 1024) :
    sc kb v5 v9 (chainOf mp q) (ix2 k (within q))
      = ∑ d : Fin 128, (kb (ix2 k d) : EReal) * ((if mp = 0 then v5 else v9) (ix2 q d) : EReal) := by
  have e := Ideal.matmul_transposedRhs_apply (φ₁ := .bf16) (φ₂ := .bf16) none kb (qs v5 v9 (chainOf mp q))
    (constant S1024x256 .f32 0x00000000#32) k (within q)
  rw [constant_apply, Ideal.ofBits_zero_f32, zero_add] at e
  refine e.trans (Finset.sum_congr rfl fun d _ => congrArg (kb (ix2 k d) * ·) ?_)
  have hm := mp.isLt
  have hq := q.isLt
  have hs : (if chainOf mp q % 2 = 0 then v5 else v9) = (if mp = 0 then v5 else v9) := by
    have : (chainOf mp q % 2 = 0) = (mp = 0) := by
      refine propext ⟨fun h => Fin.ext ?_, fun h => ?_⟩
      · show mp.val = 0; unfold chainOf at h; omega
      · have : mp.val = 0 := congrArg Fin.val h
        unfold chainOf; omega
    simp only [this]
  refine (extractStridedSlice_apply _ _ _ (ix2 (within q) d) (ix2 q d) (fun a => match a with
    | ⟨0, _⟩ => by show q.val = 256 * (chainOf mp q / 2 % 4) + q.val % 256; unfold chainOf; omega
    | ⟨1, _⟩ => by show d.val = 0 + d.val; omega)).trans ?_
  rw [hs]

/-! ## The columns' states after each block of keys -/

/-- The scores of a query of one map against the keys of block `b`. -/
def sAt (K : S8192x128.Idx → EReal) (v5 v9 : S1024x128.Idx → EReal) (mp : Fin 2) (q : Fin 1024) (b : ℕ) (k : Fin 1024) : EReal :=
  ∑ d : Fin 128, K (ix2 ⟨1024 * (b % 8) + k.val, by have := k.isLt; omega⟩ d) * (if mp = 0 then v5 else v9) (ix2 q d)

/-- The values of block `b`. -/
def vAt (V : S8x128x1024.Idx → EReal) (b : ℕ) (d : Fin 128) (k : Fin 1024) : EReal :=
  V (ix3 ⟨b % 8, Nat.mod_lt _ (by decide)⟩ d k)

/-- A column's state after its first `n` blocks. -/
def run (K : S8192x128.Idx → EReal) (V : S8x128x1024.Idx → EReal) (v5 v9 : S1024x128.Idx → EReal) (mp : Fin 2) (q : Fin 1024) : ℕ → Col
  | 0 => (⊥, 0, fun _ => 0)
  | n + 1 => upd (sAt K v5 v9 mp q n) (vAt V n) (run K V v5 v9 mp q n)

theorem off1 : ∀ (i : grid0.Coords) (k : Fin (k0_t1_loop i).trips), k0_off1 i k = ![1024 * (2 * k.val % 8), 0] := by decide +kernel
theorem off2 : ∀ (i : grid0.Coords) (k : Fin (k0_t1_loop i).trips), k0_off2 i k = ![2 * k.val % 8, 0, 0] := by decide +kernel
theorem off3 : ∀ (i : grid0.Coords) (k : Fin (k0_t1_loop i).trips), k0_off3 i k = ![1024 * ((2 * k.val + 1) % 8), 0] := by decide +kernel
theorem off4 : ∀ (i : grid0.Coords) (k : Fin (k0_t1_loop i).trips), k0_off4 i k = ![(2 * k.val + 1) % 8, 0, 0] := by decide +kernel
theorem trips1 : ∀ i : grid0.Coords, Scf.trips (k0_t1_loop i).lb (k0_t1_loop i).ub (k0_t1_loop i).st = (i 2).val / 2 := by decide +kernel
theorem trips2 : ∀ i : grid0.Coords, Scf.trips (k0_t2_loop i).lb (k0_t2_loop i).ub (k0_t2_loop i).st = 0 := by decide +kernel

/-- The keys of a block, from the row the block begins at. -/
abbrev keysAt (arg4 : Memref sig .tc .vmem S8192x128 .bf16) (X : BufTy.Contents (Elt Ideal) arg4.view.ty) (off : Fin 2 → ℕ)
    (h : ∀ a, off a + S1024x128.size a ≤ S8192x128.size a) : FVec Ideal S1024x128 .bf16 :=
  View.readAt (Elt Ideal) arg4.view (Rect.unit (s := S8192x128) off S1024x128.size h).toLoadRect X

/-- The values of a block. -/
abbrev valsAt (arg5 : Memref sig .tc .vmem S8x128x1024 .bf16) (X : BufTy.Contents (Elt Ideal) arg5.view.ty) (off : Fin 3 → ℕ)
    (h : ∀ a, off a + S1x128x1024.size a ≤ S8x128x1024.size a) : FVec Ideal S128x1024 .bf16 :=
  shapeCast S128x1024 (View.readAt (Elt Ideal) arg5.view (Rect.unit (s := S8x128x1024) off S1x128x1024.size h).toLoadRect X)
    shapeCasts_S1x128x1024_S128x1024

theorem keysAt_apply (arg4 : Memref sig .tc .vmem S8192x128 .bf16) (X : BufTy.Contents (Elt Ideal) arg4.view.ty) (off : Fin 2 → ℕ)
    (h : ∀ a, off a + S1024x128.size a ≤ S8192x128.size a) (b : ℕ) (hb : off = ![1024 * (b % 8), 0]) (k : Fin 1024) (d : Fin 128) :
    keysAt arg4 X off h (ix2 k d)
      = arg4.view.read (Elt Ideal) X (ix2 ⟨1024 * (b % 8) + k.val, by have := k.isLt; omega⟩ d) := by
  subst hb
  refine congrArg (arg4.view.read (Elt Ideal) X) (funext fun a => Fin.ext ?_)
  match a with
  | ⟨0, _⟩ => show 1024 * (b % 8) + 1 * k.val = 1024 * (b % 8) + k.val; omega
  | ⟨1, _⟩ => show 0 + 1 * d.val = d.val; omega

theorem valsAt_apply (arg5 : Memref sig .tc .vmem S8x128x1024 .bf16) (X : BufTy.Contents (Elt Ideal) arg5.view.ty) (off : Fin 3 → ℕ)
    (h : ∀ a, off a + S1x128x1024.size a ≤ S8x128x1024.size a) (b : ℕ) (hb : off = ![b % 8, 0, 0]) (d : Fin 128) (k : Fin 1024) :
    valsAt arg5 X off h (ix2 d k) = vAt (arg5.view.read (Elt Ideal) X) b d k := by
  subst hb
  refine (shapeCast_apply _ shapeCasts_S1x128x1024_S128x1024 (ix2 d k) (ix3 0 d k) (by
    rw [Shape.rowMajor_val_two, Shape.rowMajor_val_three]; show (0 * 128 + d.val) * 1024 + k.val = d.val * 1024 + k.val; omega)).trans ?_
  refine congrArg (arg5.view.read (Elt Ideal) X) (funext fun a => Fin.ext ?_)
  match a with
  | ⟨0, _⟩ => show b % 8 + 1 * 0 = b % 8; omega
  | ⟨1, _⟩ => show 0 + 1 * d.val = d.val; omega
  | ⟨2, _⟩ => show 0 + 1 * k.val = k.val; omega

/-- A block's scores, as a column's chain computes them. -/
theorem sc_keysAt (arg4 : Memref sig .tc .vmem S8192x128 .bf16) (X : BufTy.Contents (Elt Ideal) arg4.view.ty) (off : Fin 2 → ℕ)
    (h : ∀ a, off a + S1024x128.size a ≤ S8192x128.size a) (b : ℕ) (hb : off = ![1024 * (b % 8), 0])
    (v5 v9 : Vec Ideal S1024x128 .bf16) (mp : Fin 2) (q : Fin 1024) :
    (fun k => sc (keysAt arg4 X off h) v5 v9 (chainOf mp q) (ix2 k (within q)))
      = sAt (arg4.view.read (Elt Ideal) X) v5 v9 mp q b := by
  funext k
  rw [sc_apply]
  unfold sAt
  refine Finset.sum_congr rfl fun d _ => ?_
  rw [keysAt_apply arg4 X off h b hb]

section Loop

variable (𝒱 : Variants) (c : Dev nD) (bd : Option 𝒱.V) (i : grid0.Coords)
  (arg3 : Memref sig .tc .vmem S1024x128 .bf16) (harg3 : arg3.IsWhole) (arg4 : Memref sig .tc .vmem S8192x128 .bf16)
  (harg4 : arg4.IsWhole) (arg5 : Memref sig .tc .vmem S8x128x1024 .bf16) (harg5 : arg5.IsWhole)
  (arg6 : Memref sig .tc .vmem S4x64 .f32) (harg6 : arg6.IsWhole) (arg7 : Memref sig .tc .vmem S128x1 .f32)
  (harg7 : arg7.IsWhole) (arg8 : Memref sig .tc .vmem S1024x128 .bf16) (harg8 : arg8.IsWhole)
  (arg9 : Memref sig .tc .vmem S2x1x1024 .f32) (harg9 : arg9.IsWhole) (arg10 : Memref sig .tc .vmem S2x1x1024 .f32)
  (harg10 : arg10.IsWhole) (arg11 : Memref sig .tc .vmem S2x128x1024 .f32) (harg11 : arg11.IsWhole) (arg2 : BitVec 32)
  (v5 : Vec Ideal S1024x128 .bf16) (v9 : Vec Ideal S1024x128 .bf16) (c2_i32 : BitVec 32) (v22 : BitVec 32)
  (v27 : BitVec 32) (v29 : BitVec 32) (v30 : BitVec 1) (X_arg4 : BufTy.Contents (Elt Ideal) arg4.view.ty)
  (X_arg5 : BufTy.Contents (Elt Ideal) arg5.view.ty) (f9 : BufTy.Contents (Elt Ideal) arg9.view.ty)
  (f10 : BufTy.Contents (Elt Ideal) arg10.view.ty) (f11 : BufTy.Contents (Elt Ideal) arg11.view.ty)

/-- Trip `k`: two blocks, one over the other: the stores of the maxima, of the sums and of the weighted sums. -/
theorem trip_eq (k : Fin (k0_t1_loop i).trips) :
    tripL_k0_t1 (F := Ideal) 𝒱 c bd i arg3 harg3 arg4 harg4 arg5 harg5 arg6 harg6 arg7 harg7 arg8 harg8 arg9 harg9 arg10 harg10 arg11 harg11 arg2 v5 v9 c2_i32 v22 v27 v29 v30 X_arg4 X_arg5 k f9 f10 f11
      = (mList (sc (keysAt arg4 X_arg4 (k0_off3 i k) (k0_off3_inb i k)) v5 v9) (covM arg9)
            (mList (sc (keysAt arg4 X_arg4 (k0_off1 i k) (k0_off1_inb i k)) v5 v9) (atM arg9 f9) [] 8) 8,
         lList (sc (keysAt arg4 X_arg4 (k0_off3 i k) (k0_off3_inb i k)) v5 v9) (covM arg9) (covM arg10)
            (mList (sc (keysAt arg4 X_arg4 (k0_off1 i k) (k0_off1_inb i k)) v5 v9) (atM arg9 f9) [] 8)
            (lList (sc (keysAt arg4 X_arg4 (k0_off1 i k) (k0_off1_inb i k)) v5 v9) (atM arg9 f9) (atM arg10 f10) [] [] 8) 8,
         aList (sc (keysAt arg4 X_arg4 (k0_off3 i k) (k0_off3_inb i k)) v5 v9) (valsAt arg5 X_arg5 (k0_off4 i k) (k0_off4_inb i k))
            (covM arg9) (covA arg11)
            (mList (sc (keysAt arg4 X_arg4 (k0_off1 i k) (k0_off1_inb i k)) v5 v9) (atM arg9 f9) [] 8)
            (aList (sc (keysAt arg4 X_arg4 (k0_off1 i k) (k0_off1_inb i k)) v5 v9) (valsAt arg5 X_arg5 (k0_off2 i k) (k0_off2_inb i k))
              (atM arg9 f9) (atA arg11 f11) [] [] 8) 8) := by
  refine Prod.ext ?_ (Prod.ext ?_ ?_)
  · show (trip_k0_t1 (F := Ideal) 𝒱 c bd i arg3 harg3 arg4 harg4 arg5 harg5 arg6 harg6 arg7 harg7 arg8 harg8 arg9 harg9 arg10 harg10 arg11 harg11 arg2 v5 v9 c2_i32 v22 v27 v29 v30 X_arg4 X_arg5 k).1 f9 f10 f11 = _
    unfold trip_k0_t1; rfl
  · show (trip_k0_t1 (F := Ideal) 𝒱 c bd i arg3 harg3 arg4 harg4 arg5 harg5 arg6 harg6 arg7 harg7 arg8 harg8 arg9 harg9 arg10 harg10 arg11 harg11 arg2 v5 v9 c2_i32 v22 v27 v29 v30 X_arg4 X_arg5 k).2.1 f9 f10 f11 = _
    unfold trip_k0_t1; rfl
  · show (trip_k0_t1 (F := Ideal) 𝒱 c bd i arg3 harg3 arg4 harg4 arg5 harg5 arg6 harg6 arg7 harg7 arg8 harg8 arg9 harg9 arg10 harg10 arg11 harg11 arg2 v5 v9 c2_i32 v22 v27 v29 v30 X_arg4 X_arg5 k).2.2.1 f9 f10 f11 = _
    unfold trip_k0_t1; rfl

/-- A trip takes each column two blocks on. -/
theorem trip_col (k : Fin (k0_t1_loop i).trips) (mp : Fin 2) (q : Fin 1024) :
    col (View.canon (tripL_k0_t1 (F := Ideal) 𝒱 c bd i arg3 harg3 arg4 harg4 arg5 harg5 arg6 harg6 arg7 harg7 arg8 harg8 arg9 harg9 arg10 harg10 arg11 harg11 arg2 v5 v9 c2_i32 v22 v27 v29 v30 X_arg4 X_arg5 k f9 f10 f11).1) (View.canon (tripL_k0_t1 (F := Ideal) 𝒱 c bd i arg3 harg3 arg4 harg4 arg5 harg5 arg6 harg6 arg7 harg7 arg8 harg8 arg9 harg9 arg10 harg10 arg11 harg11 arg2 v5 v9 c2_i32 v22 v27 v29 v30 X_arg4 X_arg5 k f9 f10 f11).2.1) (View.canon (tripL_k0_t1 (F := Ideal) 𝒱 c bd i arg3 harg3 arg4 harg4 arg5 harg5 arg6 harg6 arg7 harg7 arg8 harg8 arg9 harg9 arg10 harg10 arg11 harg11 arg2 v5 v9 c2_i32 v22 v27 v29 v30 X_arg4 X_arg5 k f9 f10 f11).2.2) mp q
      = upd (sAt (arg4.view.read (Elt Ideal) X_arg4) v5 v9 mp q (2 * k.val + 1)) (vAt (arg5.view.read (Elt Ideal) X_arg5) (2 * k.val + 1))
          (upd (sAt (arg4.view.read (Elt Ideal) X_arg4) v5 v9 mp q (2 * k.val)) (vAt (arg5.view.read (Elt Ideal) X_arg5) (2 * k.val))
            (col (arg9.view.read (Elt Ideal) f9) (arg10.view.read (Elt Ideal) f10) (arg11.view.read (Elt Ideal) f11) mp q)) := by
  rw [trip_eq]
  dsimp only
  rw [block_cov, block_at, sc_keysAt _ _ _ _ (2 * k.val) (off1 i k), sc_keysAt _ _ _ _ (2 * k.val + 1) (off3 i k)]
  have e0 : (fun d k' => valsAt arg5 X_arg5 (k0_off2 i k) (k0_off2_inb i k) (ix2 d k')) = vAt (arg5.view.read (Elt Ideal) X_arg5) (2 * k.val) :=
    funext fun d => funext fun k' => valsAt_apply _ _ _ _ _ (off2 i k) d k'
  have e1 : (fun d k' => valsAt arg5 X_arg5 (k0_off4 i k) (k0_off4_inb i k) (ix2 d k')) = vAt (arg5.view.read (Elt Ideal) X_arg5) (2 * k.val + 1) :=
    funext fun d => funext fun k' => valsAt_apply _ _ _ _ _ (off4 i k) d k'
  rw [e0, e1]

/-- A trip stores every index of the three buffers. -/
theorem trip_full (k : Fin (k0_t1_loop i).trips) : Full (tripL_k0_t1 (F := Ideal) 𝒱 c bd i arg3 harg3 arg4 harg4 arg5 harg5 arg6 harg6 arg7 harg7 arg8 harg8 arg9 harg9 arg10 harg10 arg11 harg11 arg2 v5 v9 c2_i32 v22 v27 v29 v30 X_arg4 X_arg5 k f9 f10 f11) := by
  rw [trip_eq]
  exact ⟨cover_m _ _ _, cover_l _ _ _ _ _, cover_a _ _ _ _ _ _⟩

/-- Before trip `n` each column holds the state after `2 n` blocks. -/
theorem loop_col (M0 L0 : Rows) (A0 : Accs) (mp : Fin 2) (q : Fin 1024)
    (h0 : col (View.canon M0) (View.canon L0) (View.canon A0) mp q = (⊥, 0, fun _ => 0)) (n : ℕ) (hn : n ≤ (k0_t1_loop i).trips) :
    col (View.canon ((pb_k0_t1 (F := Ideal) 𝒱 c bd i arg3 harg3 arg4 harg4 arg5 harg5 arg6 harg6 arg7 harg7 arg8 harg8 arg9 harg9 arg10 harg10 arg11 harg11 arg2 v5 v9 c2_i32 v22 v27 v29 v30 X_arg4 X_arg5 (arg9.view.writes (Elt Ideal) arg9.view.junk M0) (arg10.view.writes (Elt Ideal) arg10.view.junk L0) (arg11.view.writes (Elt Ideal) arg11.view.junk A0) n).1 ++ M0))
        (View.canon ((pb_k0_t1 (F := Ideal) 𝒱 c bd i arg3 harg3 arg4 harg4 arg5 harg5 arg6 harg6 arg7 harg7 arg8 harg8 arg9 harg9 arg10 harg10 arg11 harg11 arg2 v5 v9 c2_i32 v22 v27 v29 v30 X_arg4 X_arg5 (arg9.view.writes (Elt Ideal) arg9.view.junk M0) (arg10.view.writes (Elt Ideal) arg10.view.junk L0) (arg11.view.writes (Elt Ideal) arg11.view.junk A0) n).2.1 ++ L0))
        (View.canon ((pb_k0_t1 (F := Ideal) 𝒱 c bd i arg3 harg3 arg4 harg4 arg5 harg5 arg6 harg6 arg7 harg7 arg8 harg8 arg9 harg9 arg10 harg10 arg11 harg11 arg2 v5 v9 c2_i32 v22 v27 v29 v30 X_arg4 X_arg5 (arg9.view.writes (Elt Ideal) arg9.view.junk M0) (arg10.view.writes (Elt Ideal) arg10.view.junk L0) (arg11.view.writes (Elt Ideal) arg11.view.junk A0) n).2.2 ++ A0)) mp q
      = run (arg4.view.read (Elt Ideal) X_arg4) (arg5.view.read (Elt Ideal) X_arg5) v5 v9 mp q (2 * n) := by
  induction n with
  | zero => exact h0
  | succ n ih =>
    have ih := ih (Nat.le_of_succ_le hn)
    obtain ⟨k, rfl⟩ : ∃ k : Fin (k0_t1_loop i).trips, n = k.val := ⟨⟨n, hn⟩, rfl⟩
    rw [pb_k0_t1_succ]
    generalize (pb_k0_t1 (F := Ideal) 𝒱 c bd i arg3 harg3 arg4 harg4 arg5 harg5 arg6 harg6 arg7 harg7 arg8 harg8 arg9 harg9 arg10 harg10 arg11 harg11 arg2 v5 v9 c2_i32 v22 v27 v29 v30 X_arg4 X_arg5 (arg9.view.writes (Elt Ideal) arg9.view.junk M0) (arg10.view.writes (Elt Ideal) arg10.view.junk L0) (arg11.view.writes (Elt Ideal) arg11.view.junk A0) k.val) = P at ih ⊢
    have t := trip_col 𝒱 c bd i arg3 harg3 arg4 harg4 arg5 harg5 arg6 harg6 arg7 harg7 arg8 harg8 arg9 harg9 arg10 harg10 arg11 harg11 arg2 v5 v9 c2_i32 v22 v27 v29 v30 X_arg4 X_arg5
      (arg9.view.writes (Elt Ideal) (arg9.view.writes (Elt Ideal) arg9.view.junk M0) P.1)
      (arg10.view.writes (Elt Ideal) (arg10.view.writes (Elt Ideal) arg10.view.junk L0) P.2.1)
      (arg11.view.writes (Elt Ideal) (arg11.view.writes (Elt Ideal) arg11.view.junk A0) P.2.2) k mp q
    have e := trip_full 𝒱 c bd i arg3 harg3 arg4 harg4 arg5 harg5 arg6 harg6 arg7 harg7 arg8 harg8 arg9 harg9 arg10 harg10 arg11 harg11 arg2 v5 v9 c2_i32 v22 v27 v29 v30 X_arg4 X_arg5
      (arg9.view.writes (Elt Ideal) (arg9.view.writes (Elt Ideal) arg9.view.junk M0) P.1)
      (arg10.view.writes (Elt Ideal) (arg10.view.writes (Elt Ideal) arg10.view.junk L0) P.2.1)
      (arg11.view.writes (Elt Ideal) (arg11.view.writes (Elt Ideal) arg11.view.junk A0) P.2.2) k
    generalize tripL_k0_t1 (F := Ideal) 𝒱 c bd i arg3 harg3 arg4 harg4 arg5 harg5 arg6 harg6 arg7 harg7 arg8 harg8 arg9 harg9 arg10 harg10 arg11 harg11 arg2 v5 v9 c2_i32 v22 v27 v29 v30 X_arg4 X_arg5 k
      (arg9.view.writes (Elt Ideal) (arg9.view.writes (Elt Ideal) arg9.view.junk M0) P.1)
      (arg10.view.writes (Elt Ideal) (arg10.view.writes (Elt Ideal) arg10.view.junk L0) P.2.1)
      (arg11.view.writes (Elt Ideal) (arg11.view.writes (Elt Ideal) arg11.view.junk A0) P.2.2) = T at t e ⊢
    rw [← View.writes_append, ← View.writes_append, ← View.writes_append, View.read_writes_junk_eq_canon,
      View.read_writes_junk_eq_canon, View.read_writes_junk_eq_canon, ih] at t
    dsimp only
    rw [List.append_assoc, List.append_assoc, List.append_assoc, col_append T e]
    exact t

end Loop

end Cert.Proof.Diff

end

end
-- ==== Proof.DiffTail.lean ====
module

public import proofs.«01_k».proof.Proof.DiffTrip
public import proofs.«01_k».proof.Proof.Gen.KernelIdeal.Frame

@[expose] public section

/-! # The blocks after the loop

The block on the diagonal is masked: a query sees the keys of its own group of 64 and of those before it. At an odd
place the block before it is folded in with it. -/

set_option maxRecDepth 100000
set_option maxHeartbeats 1000000

noncomputable section

namespace Cert.Proof.Diff

open Idealize.ShloMosaic Idealize.ShloMosaic.TcCoe Idealize.ShloMosaic.ValueIdx
open Cert.KernelIdeal Cert.KernelIdeal.Gen

/-- The group of 64 an index falls into, as the kernel computes it. -/
abbrev grp (x : IVec S1024x256 32) : IVec S1024x256 32 :=
  select
    (andi (cmpi .ne (subi (extui 32 (cmpi .sgt x (broadcast S1024x256 0#32)) natLt_1_32)
        (extui 32 (cmpi .slt x (broadcast S1024x256 0#32)) natLt_1_32))
      (broadcast S1024x256 (Scalar.subi (Scalar.extui (Scalar.cmpi .sgt 64#32 0#32)) (Scalar.extui (Scalar.cmpi .slt 64#32 0#32)))))
      (cmpi .ne (remsi x (broadcast S1024x256 64#32)) (broadcast S1024x256 0#32)))
    (subi (divsi x (broadcast S1024x256 64#32)) (broadcast S1024x256 1#32)) (divsi x (broadcast S1024x256 64#32))

/-- The mask of chain `n`: where the key's group is not after the query's. -/
abbrev seen (n : ℕ) : IVec S1024x256 1 :=
  cmpi .sle (grp (iota .tc S1024x256 32 [0] iota_S1024x256_d0_w32))
    (grp (addi (iota .tc S1024x256 32 [1] iota_S1024x256_d1_w32) (broadcast S1024x256 (BitVec.ofNat 32 (256 * (n / 2 % 4))))))

/-- Scores with the mask laid over. -/
abbrev msk (s : ℕ → FVec Ideal S1024x256 .f32) (n : ℕ) : FVec Ideal S1024x256 .f32 :=
  select (seen n) (s n) (broadcast S1024x256 (Named.named κ "mask" 0xF149F2CA#32))

section A

variable (c : Dev nD) (i : grid0.Coords) (arg3 : Memref sig .tc .vmem S1024x128 .bf16) (harg3 : arg3.IsWhole)
  (arg4 : Memref sig .tc .vmem S8192x128 .bf16) (harg4 : arg4.IsWhole) (arg5 : Memref sig .tc .vmem S8x128x1024 .bf16)
  (harg5 : arg5.IsWhole) (arg6 : Memref sig .tc .vmem S4x64 .f32) (harg6 : arg6.IsWhole)
  (arg7 : Memref sig .tc .vmem S128x1 .f32) (harg7 : arg7.IsWhole) (arg8 : Memref sig .tc .vmem S1024x128 .bf16)
  (harg8 : arg8.IsWhole) (arg9 : Memref sig .tc .vmem S2x1x1024 .f32) (harg9 : arg9.IsWhole)
  (arg10 : Memref sig .tc .vmem S2x1x1024 .f32) (harg10 : arg10.IsWhole) (arg11 : Memref sig .tc .vmem S2x128x1024 .f32)
  (harg11 : arg11.IsWhole) (v5 v9 : FVec Ideal S1024x128 .bf16) (x1 : Vec Ideal S8192x128 .bf16) (x2 : Vec Ideal S8x128x1024 .bf16)
  (v22 v27 v43 : BitVec 32)

/-- The buffers' stores before the loop: no maximum yet, sums zero. -/
abbrev initM : Rows := [⟨Rect.unit ![0, 0, 0] S2x1x1024.size inb_S2x1x1024_S2x1x1024_0_0_0, k0_pay624 (F := Ideal)⟩]
abbrev initL : Rows := [⟨Rect.unit ![0, 0, 0] S2x1x1024.size inb_S2x1x1024_S2x1x1024_0_0_0, k0_pay625 (F := Ideal)⟩]
abbrev initA : Accs := [⟨Rect.unit ![0, 0, 0] S2x128x1024.size inb_S2x128x1024_S2x128x1024_0_0_0, k0_pay626 (F := Ideal)⟩]

/-- The loop's stores. -/
abbrev pb1 : Rows × Rows × Accs :=
  pb_k0_t1 (F := Ideal) Variants.none c none i arg3 harg3 arg4 harg4 arg5 harg5 arg6 harg6 arg7 harg7 arg8 harg8 arg9 harg9
    arg10 harg10 arg11 harg11 (BitVec.ofNat 32 (i 2).val) v5 v9 2#32 v22 v27 1#32 0#1
    (harg4.unread x1) (harg5.unread x2) (arg9.view.writes (Elt Ideal) arg9.view.junk initM)
    (arg10.view.writes (Elt Ideal) arg10.view.junk initL) (arg11.view.writes (Elt Ideal) arg11.view.junk initA)
    (Scf.trips (k0_t1_loop i).lb (k0_t1_loop i).ub (k0_t1_loop i).st)

/-- The buffers' stores after it. -/
abbrev aftM : Rows := (pb1 c i arg3 harg3 arg4 harg4 arg5 harg5 arg6 harg6 arg7 harg7 arg8 harg8 arg9 harg9 arg10 harg10 arg11 harg11 v5 v9 x1 x2 v22 v27).1 ++ initM
abbrev aftL : Rows := (pb1 c i arg3 harg3 arg4 harg4 arg5 harg5 arg6 harg6 arg7 harg7 arg8 harg8 arg9 harg9 arg10 harg10 arg11 harg11 v5 v9 x1 x2 v22 v27).2.1 ++ initL
abbrev aftA : Accs := (pb1 c i arg3 harg3 arg4 harg4 arg5 harg5 arg6 harg6 arg7 harg7 arg8 harg8 arg9 harg9 arg10 harg10 arg11 harg11 v5 v9 x1 x2 v22 v27).2.2 ++ initA

/-- The second loop's stores, of which there are none. -/
abbrev pb2 : Rows × Rows × Accs :=
  pb_k0_t2 (F := Ideal) Variants.none c none i arg3 harg3 arg4 harg4 arg5 harg5 arg6 harg6 arg7 harg7 arg8 harg8 arg9 harg9
    arg10 harg10 arg11 harg11 (BitVec.ofNat 32 (i 2).val) v5 v9 2#32 v22 v27 1#32 0#1 v43
    (harg4.unread x1) (harg5.unread x2)
    (arg9.view.writes (Elt Ideal) arg9.view.junk (aftM c i arg3 harg3 arg4 harg4 arg5 harg5 arg6 harg6 arg7 harg7 arg8 harg8 arg9 harg9 arg10 harg10 arg11 harg11 v5 v9 x1 x2 v22 v27))
    (arg10.view.writes (Elt Ideal) arg10.view.junk (aftL c i arg3 harg3 arg4 harg4 arg5 harg5 arg6 harg6 arg7 harg7 arg8 harg8 arg9 harg9 arg10 harg10 arg11 harg11 v5 v9 x1 x2 v22 v27))
    (arg11.view.writes (Elt Ideal) arg11.view.junk (aftA c i arg3 harg3 arg4 harg4 arg5 harg5 arg6 harg6 arg7 harg7 arg8 harg8 arg9 harg9 arg10 harg10 arg11 harg11 v5 v9 x1 x2 v22 v27))
    (Scf.trips (k0_t2_loop i).lb (k0_t2_loop i).ub (k0_t2_loop i).st)

/-- The buffers' stores after both loops. -/
abbrev basM : Rows := (pb2 c i arg3 harg3 arg4 harg4 arg5 harg5 arg6 harg6 arg7 harg7 arg8 harg8 arg9 harg9 arg10 harg10 arg11 harg11 v5 v9 x1 x2 v22 v27 v43).1 ++ aftM c i arg3 harg3 arg4 harg4 arg5 harg5 arg6 harg6 arg7 harg7 arg8 harg8 arg9 harg9 arg10 harg10 arg11 harg11 v5 v9 x1 x2 v22 v27
abbrev basL : Rows := (pb2 c i arg3 harg3 arg4 harg4 arg5 harg5 arg6 harg6 arg7 harg7 arg8 harg8 arg9 harg9 arg10 harg10 arg11 harg11 v5 v9 x1 x2 v22 v27 v43).2.1 ++ aftL c i arg3 harg3 arg4 harg4 arg5 harg5 arg6 harg6 arg7 harg7 arg8 harg8 arg9 harg9 arg10 harg10 arg11 harg11 v5 v9 x1 x2 v22 v27
abbrev basA : Accs := (pb2 c i arg3 harg3 arg4 harg4 arg5 harg5 arg6 harg6 arg7 harg7 arg8 harg8 arg9 harg9 arg10 harg10 arg11 harg11 v5 v9 x1 x2 v22 v27 v43).2.2 ++ aftA c i arg3 harg3 arg4 harg4 arg5 harg5 arg6 harg6 arg7 harg7 arg8 harg8 arg9 harg9 arg10 harg10 arg11 harg11 v5 v9 x1 x2 v22 v27

theorem pb2_eq : pb2 c i arg3 harg3 arg4 harg4 arg5 harg5 arg6 harg6 arg7 harg7 arg8 harg8 arg9 harg9 arg10 harg10 arg11 harg11 v5 v9 x1 x2 v22 v27 v43 = ([], [], []) := by
  unfold pb2
  rw [trips2]
  rfl

variable (x0 : Vec Ideal S1024x128 .bf16)

/-- The queries, their second half zero and their first half zero. -/
abbrev q5 : FVec Ideal S1024x128 .bf16 :=
  k0_pay622 (F := Ideal) (View.readAt (Elt Ideal) arg3.view (Rect.unit (s := S1024x128) ![0, 0] S1024x128.size inb_S1024x128_S1024x128_0_0).toLoadRect (harg3.unread x0))
abbrev q9 : FVec Ideal S1024x128 .bf16 :=
  k0_pay623 (F := Ideal) (View.readAt (Elt Ideal) arg3.view (Rect.unit (s := S1024x128) ![0, 0] S1024x128.size inb_S1024x128_S1024x128_0_0).toLoadRect (harg3.unread x0))

variable (hc0 : ¬cond0_0 i) (hc1 : cond0_1 i)

end A
end Cert.Proof.Diff

end

end
-- ==== Proof.DiffState.lean ====
module

public import proofs.«01_k».proof.Proof.DiffTail

@[expose] public section

/-! # The columns' states at the end

After the loop and the blocks after it a column's state is that of all blocks before the diagonal's, and of the diagonal's
under its mask. -/

set_option maxRecDepth 100000
set_option maxHeartbeats 1000000

noncomputable section

namespace Cert.Proof.Diff

open Idealize.ShloMosaic Idealize.ShloMosaic.TcCoe Idealize.ShloMosaic.ValueIdx
open Cert.KernelIdeal Cert.KernelIdeal.Gen

/-! ## The mask -/

/-- The group of 64 of one word. -/
def grpW (x : BitVec 32) : BitVec 32 :=
  Scalar.select
    (IntOp.andi (IntOp.cmpi .ne (IntOp.subi ((IntOp.cmpi .sgt x 0#32).setWidth 32) ((IntOp.cmpi .slt x 0#32).setWidth 32))
      (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32) (IntOp.divsi .vector x 64#32)

theorem grp_apply (x : IVec S1024x256 32) (j : S1024x256.Idx) : grp x j = grpW (x j) := rfl

theorem grpW_small : ∀ a : Fin 1024, grpW (BitVec.ofNat 32 a.val) = BitVec.ofNat 32 (a.val / 64) := by decide +kernel

theorem sle_small : ∀ a b : Fin 16, IntOp.cmpi .sle (BitVec.ofNat 32 a.val) (BitVec.ofNat 32 b.val) = if a.val ≤ b.val then 1#1 else 0#1 := by
  decide +kernel

/-- A chain's mask lets a key through where its group is not after the query's. -/
theorem seen_apply (mp : Fin 2) (q k : Fin 1024) :
    seen (chainOf mp q) (ix2 k (within q)) = if k.val / 64 ≤ q.val / 64 then 1#1 else 0#1 := by
  have hm := mp.isLt
  have hq := q.isLt
  have hk := k.isLt
  have i0 : iota .tc S1024x256 32 [0] iota_S1024x256_d0_w32 (ix2 k (within q)) = BitVec.ofNat 32 k.val :=
    iota_single_apply _ _ _ _ _ _
  have i1 : iota .tc S1024x256 32 [1] iota_S1024x256_d1_w32 (ix2 k (within q)) = BitVec.ofNat 32 (within q).val :=
    iota_single_apply _ _ _ _ _ _
  show IntOp.cmpi .sle (grp _ _) (grp _ _) = _
  rw [grp_apply, grp_apply, i0]
  show IntOp.cmpi .sle (grpW (BitVec.ofNat 32 k.val))
    (grpW (iota .tc S1024x256 32 [1] iota_S1024x256_d1_w32 (ix2 k (within q)) + BitVec.ofNat 32 (256 * (chainOf mp q / 2 % 4)))) = _
  rw [i1]
  have e : BitVec.ofNat 32 (within q).val + BitVec.ofNat 32 (256 * (chainOf mp q / 2 % 4)) = BitVec.ofNat 32 q.val := by
    rw [← BitVec.ofNat_add]
    refine congrArg _ ?_
    show q.val % 256 + 256 * (chainOf mp q / 2 % 4) = q.val
    unfold chainOf
    omega
  rw [e, grpW_small k, grpW_small q]
  exact sle_small ⟨k.val / 64, by omega⟩ ⟨q.val / 64, by omega⟩

theorem mask_bot : (Named.named (F := Ideal) (φ := .f32) κ "mask" 0xF149F2CA#32 : EReal) = ⊥ :=
  IdealRules.named_const.ideal_named_scalar _ _ _ _ rfl

/-- A column's scores under the mask. -/
theorem msk_apply (s : ℕ → FVec Ideal S1024x256 .f32) (mp : Fin 2) (q k : Fin 1024) :
    msk s (chainOf mp q) (ix2 k (within q)) = if k.val / 64 ≤ q.val / 64 then s (chainOf mp q) (ix2 k (within q)) else ⊥ := by
  unfold msk
  rw [select_apply, seen_apply]
  by_cases h : k.val / 64 ≤ q.val / 64
  · rw [if_pos h, if_pos h]; rfl
  · rw [if_neg h, if_neg h]; exact mask_bot

/-! ## Where the blocks after the loop begin -/

theorem off9 : ∀ i : grid0.Coords, cond0_0 i → k0_off9 i = ![1024 * (((i 2).val - 1) % 8), 0] := by decide +kernel
theorem off10 : ∀ i : grid0.Coords, cond0_0 i → k0_off10 i = ![((i 2).val - 1) % 8, 0, 0] := by decide +kernel
theorem off11 : ∀ i : grid0.Coords, k0_off11 i = ![1024 * ((i 2).val % 8), 0] := by decide +kernel
theorem off12 : ∀ i : grid0.Coords, k0_off12 i = ![(i 2).val % 8, 0, 0] := by decide +kernel
theorem off13 : ∀ i : grid0.Coords, k0_off13 i = ![1024 * ((i 2).val % 8), 0] := by decide +kernel
theorem off14 : ∀ i : grid0.Coords, k0_off14 i = ![(i 2).val % 8, 0, 0] := by decide +kernel
theorem odd : ∀ i : grid0.Coords, cond0_0 i → (i 2).val % 2 = 1 := by decide +kernel
theorem even : ∀ i : grid0.Coords, cond0_1 i → (i 2).val % 2 = 0 := by decide +kernel

/-- A column's state from lists of stores that are others' spelled differently. -/
theorem of_col {mp : Fin 2} {q : Fin 1024} {HL L : Rows} {HA A : Accs} {M : S2x1x1024.Idx → EReal} {t : Col} (eL : HL = L) (eA : HA = A)
    (h : col M (View.canon L) (View.canon A) mp q = t) :
    View.canon HL (ix3 mp 0 q) = t.2.1 ∧ (fun d => View.canon HA (ix3 mp d q)) = t.2.2 := by
  subst eL eA h
  exact ⟨rfl, rfl⟩

section A

variable (c : Dev nD) (i : grid0.Coords) (arg3 : Memref sig .tc .vmem S1024x128 .bf16) (harg3 : arg3.IsWhole)
  (arg4 : Memref sig .tc .vmem S8192x128 .bf16) (harg4 : arg4.IsWhole) (arg5 : Memref sig .tc .vmem S8x128x1024 .bf16)
  (harg5 : arg5.IsWhole) (arg6 : Memref sig .tc .vmem S4x64 .f32) (harg6 : arg6.IsWhole)
  (arg7 : Memref sig .tc .vmem S128x1 .f32) (harg7 : arg7.IsWhole) (arg8 : Memref sig .tc .vmem S1024x128 .bf16)
  (harg8 : arg8.IsWhole) (arg9 : Memref sig .tc .vmem S2x1x1024 .f32) (harg9 : arg9.IsWhole)
  (arg10 : Memref sig .tc .vmem S2x1x1024 .f32) (harg10 : arg10.IsWhole) (arg11 : Memref sig .tc .vmem S2x128x1024 .f32)
  (harg11 : arg11.IsWhole) (v5 v9 : FVec Ideal S1024x128 .bf16) (x0 : Vec Ideal S1024x128 .bf16) (x1 : Vec Ideal S8192x128 .bf16)
  (x2 : Vec Ideal S8x128x1024 .bf16) (v22 v27 v43 : BitVec 32)

theorem zeros3 : (![0, 0, 0] : Fin 3 → ℕ) = fun _ => 0 := by
  funext a; match a with | ⟨0, _⟩ => rfl | ⟨1, _⟩ => rfl | ⟨2, _⟩ => rfl

/-- Before the loop no column has a block. -/
theorem init_col (mp : Fin 2) (q : Fin 1024) :
    col (View.canon initM) (View.canon initL) (View.canon initA) mp q = (⊥, 0, fun _ => 0) := by
  have e1 : View.canon initM = k0_pay624 (F := Ideal) := View.canon_unit_zero zeros3 _ _
  have e2 : View.canon initL = k0_pay625 (F := Ideal) := View.canon_unit_zero zeros3 _ _
  have e3 : View.canon initA = k0_pay626 (F := Ideal) := View.canon_unit_zero zeros3 _ _
  rw [e1, e2, e3]
  unfold col
  refine Prod.ext ?_ (Prod.ext ?_ (funext fun d => ?_))
  · exact mask_bot
  · exact Ideal.ofBits_zero_f32
  · exact Ideal.ofBits_zero_f32

/-- After the loops a column has the blocks before the last pair. -/
theorem bas_col (mp : Fin 2) (q : Fin 1024) :
    col (View.canon (basM c i arg3 harg3 arg4 harg4 arg5 harg5 arg6 harg6 arg7 harg7 arg8 harg8 arg9 harg9 arg10 harg10 arg11 harg11 v5 v9 x1 x2 v22 v27 v43)) (View.canon (basL c i arg3 harg3 arg4 harg4 arg5 harg5 arg6 harg6 arg7 harg7 arg8 harg8 arg9 harg9 arg10 harg10 arg11 harg11 v5 v9 x1 x2 v22 v27 v43))
        (View.canon (basA c i arg3 harg3 arg4 harg4 arg5 harg5 arg6 harg6 arg7 harg7 arg8 harg8 arg9 harg9 arg10 harg10 arg11 harg11 v5 v9 x1 x2 v22 v27 v43)) mp q
      = run x1 x2 v5 v9 mp q (2 * ((i 2).val / 2)) := by
  unfold basM basL basA
  rw [pb2_eq]
  dsimp only
  rw [List.nil_append, List.nil_append, List.nil_append]
  unfold aftM aftL aftA pb1
  have h := loop_col Variants.none c none i arg3 harg3 arg4 harg4 arg5 harg5 arg6 harg6 arg7 harg7 arg8 harg8 arg9 harg9 arg10 harg10 arg11 harg11 (BitVec.ofNat 32 (i 2).val) v5 v9 2#32 v22 v27 1#32 0#1 (harg4.unread x1) (harg5.unread x2)
    initM initL initA mp q (init_col mp q) (Scf.trips (k0_t1_loop i).lb (k0_t1_loop i).ub (k0_t1_loop i).st) le_rfl
  rw [harg4.read_unread, harg5.read_unread] at h
  refine h.trans ?_
  rw [trips1]

/-- A column's state at the end: the diagonal's block over those before it. -/
def fin (mp : Fin 2) (q : Fin 1024) : Col :=
  upd (fun k => if k.val / 64 ≤ q.val / 64 then sAt x1 v5 v9 mp q (i 2).val k else ⊥) (vAt x2 (i 2).val)
    (run x1 x2 v5 v9 mp q (i 2).val)

/-- The last block over earlier stores. -/
theorem last_col (off : Fin 2 → ℕ) (h : ∀ a, off a + S1024x128.size a ≤ S8192x128.size a) (hb : off = ![1024 * ((i 2).val % 8), 0])
    (off' : Fin 3 → ℕ) (h' : ∀ a, off' a + S1x128x1024.size a ≤ S8x128x1024.size a) (hb' : off' = ![(i 2).val % 8, 0, 0])
    (M0 L0 : Rows) (A0 : Accs) (mp : Fin 2) (q : Fin 1024)
    (h0 : col (View.canon M0) (View.canon L0) (View.canon A0) mp q = run x1 x2 v5 v9 mp q (i 2).val) :
    col (View.canon (mList (msk (sc (keysAt arg4 (harg4.unread x1) off h) v5 v9)) (covM arg9) M0 8))
        (View.canon (lList (msk (sc (keysAt arg4 (harg4.unread x1) off h) v5 v9)) (covM arg9) (covM arg10) M0 L0 8))
        (View.canon (aList (msk (sc (keysAt arg4 (harg4.unread x1) off h) v5 v9)) (valsAt arg5 (harg5.unread x2) off' h') (covM arg9) (covA arg11) M0 A0 8)) mp q
      = fin i v5 v9 x1 x2 mp q := by
  rw [block_cov, h0]
  unfold fin
  have e := sc_keysAt arg4 (harg4.unread x1) off h _ hb v5 v9 mp q
  rw [harg4.read_unread] at e
  have e1 : (fun k => msk (sc (keysAt arg4 (harg4.unread x1) off h) v5 v9) (chainOf mp q) (ix2 k (within q)))
      = fun k : Fin 1024 => if k.val / 64 ≤ q.val / 64 then sAt x1 v5 v9 mp q (i 2).val k else ⊥ := by
    funext k
    rw [msk_apply, ← e]
  have e2 : (fun d k => valsAt arg5 (harg5.unread x2) off' h' (ix2 d k)) = vAt x2 (i 2).val := by
    funext d k
    rw [valsAt_apply _ _ _ _ _ hb', harg5.read_unread]
  rw [e1, e2]

/-- At an odd place, the block before the diagonal's. -/
theorem prev_col (hc0 : cond0_0 i) (M0 L0 : Rows) (A0 : Accs) (mp : Fin 2) (q : Fin 1024)
    (h0 : col (View.canon M0) (View.canon L0) (View.canon A0) mp q = run x1 x2 v5 v9 mp q (2 * ((i 2).val / 2))) :
    col (View.canon (mList (sc (keysAt arg4 (harg4.unread x1) (k0_off9 i) (k0_off9_inb i hc0)) v5 v9) (covM arg9) M0 8))
        (View.canon (lList (sc (keysAt arg4 (harg4.unread x1) (k0_off9 i) (k0_off9_inb i hc0)) v5 v9) (covM arg9) (covM arg10) M0 L0 8))
        (View.canon (aList (sc (keysAt arg4 (harg4.unread x1) (k0_off9 i) (k0_off9_inb i hc0)) v5 v9) (valsAt arg5 (harg5.unread x2) (k0_off10 i) (k0_off10_inb i hc0)) (covM arg9) (covA arg11) M0 A0 8)) mp q
      = run x1 x2 v5 v9 mp q (i 2).val := by
  have ho := odd i hc0
  have e := sc_keysAt arg4 (harg4.unread x1) (k0_off9 i) (k0_off9_inb i hc0) _ (off9 i hc0) v5 v9 mp q
  rw [harg4.read_unread] at e
  have e2 : (fun d k => valsAt arg5 (harg5.unread x2) (k0_off10 i) (k0_off10_inb i hc0) (ix2 d k)) = vAt x2 ((i 2).val - 1) := by
    funext d k
    rw [valsAt_apply _ _ _ _ _ (off10 i hc0), harg5.read_unread]
  rw [block_cov, h0, e, e2, show (i 2).val = (i 2).val - 1 + 1 by omega, show 2 * (((i 2).val - 1 + 1) / 2) = (i 2).val - 1 by omega]
  rfl

variable (x3 : Vec Ideal S4x64 .f32) (x4 : Vec Ideal S128x1 .f32)

/-! ## The stores of an even place -/

section Even

variable (hc0 : ¬cond0_0 i) (hc1 : cond0_1 i)

abbrev scA : ℕ → FVec Ideal S1024x256 .f32 := msk (sc (keysAt arg4 (harg4.unread x1) (k0_off13 i) (k0_off13_inb i hc1)) (q5 arg3 harg3 x0) (q9 arg3 harg3 x0))
abbrev vlA : FVec Ideal S128x1024 .bf16 := valsAt arg5 (harg5.unread x2) (k0_off14 i) (k0_off14_inb i hc1)
abbrev bMA : Rows := basM c i arg3 harg3 arg4 harg4 arg5 harg5 arg6 harg6 arg7 harg7 arg8 harg8 arg9 harg9 arg10 harg10 arg11 harg11 (q5 arg3 harg3 x0) (q9 arg3 harg3 x0) x1 x2 (kernelRun0_A.sl.v22 i) (kernelRun0_A.sl.v27 i) (kernelRun0_A.sl.v43 i)
abbrev bLA : Rows := basL c i arg3 harg3 arg4 harg4 arg5 harg5 arg6 harg6 arg7 harg7 arg8 harg8 arg9 harg9 arg10 harg10 arg11 harg11 (q5 arg3 harg3 x0) (q9 arg3 harg3 x0) x1 x2 (kernelRun0_A.sl.v22 i) (kernelRun0_A.sl.v27 i) (kernelRun0_A.sl.v43 i)
abbrev bAA : Accs := basA c i arg3 harg3 arg4 harg4 arg5 harg5 arg6 harg6 arg7 harg7 arg8 harg8 arg9 harg9 arg10 harg10 arg11 harg11 (q5 arg3 harg3 x0) (q9 arg3 harg3 x0) x1 x2 (kernelRun0_A.sl.v22 i) (kernelRun0_A.sl.v27 i) (kernelRun0_A.sl.v43 i)

theorem listL_A : kernelRun0_A.sl.HS1_8 (F := Ideal) c i arg3 harg3 arg4 harg4 arg5 harg5 arg6 harg6 arg7 harg7 arg8 harg8 arg9 harg9 arg10 harg10 arg11 harg11 hc1 x0 x1 x2
    = lList (scA i arg3 harg3 arg4 harg4 x0 x1 hc1) (covM arg9) (covM arg10) (bMA c i arg3 harg3 arg4 harg4 arg5 harg5 arg6 harg6 arg7 harg7 arg8 harg8 arg9 harg9 arg10 harg10 arg11 harg11 x0 x1 x2) (bLA c i arg3 harg3 arg4 harg4 arg5 harg5 arg6 harg6 arg7 harg7 arg8 harg8 arg9 harg9 arg10 harg10 arg11 harg11 x0 x1 x2) 8 := by
  sl_kernel_rfl

theorem listA_A : kernelRun0_A.sl.HS2_8 (F := Ideal) c i arg3 harg3 arg4 harg4 arg5 harg5 arg6 harg6 arg7 harg7 arg8 harg8 arg9 harg9 arg10 harg10 arg11 harg11 hc1 x0 x1 x2
    = aList (scA i arg3 harg3 arg4 harg4 x0 x1 hc1) (vlA i arg5 harg5 x2 hc1) (covM arg9) (covA arg11) (bMA c i arg3 harg3 arg4 harg4 arg5 harg5 arg6 harg6 arg7 harg7 arg8 harg8 arg9 harg9 arg10 harg10 arg11 harg11 x0 x1 x2) (bAA c i arg3 harg3 arg4 harg4 arg5 harg5 arg6 harg6 arg7 harg7 arg8 harg8 arg9 harg9 arg10 harg10 arg11 harg11 x0 x1 x2) 8 := by
  sl_kernel_rfl

/-- The sums and weighted sums an even place ends with. -/
theorem end_A (mp : Fin 2) (q : Fin 1024) :
    View.canon (kernelRun0_A.sl.HS1_8 (F := Ideal) c i arg3 harg3 arg4 harg4 arg5 harg5 arg6 harg6 arg7 harg7 arg8 harg8 arg9 harg9 arg10 harg10 arg11 harg11 hc1 x0 x1 x2) (ix3 mp 0 q) = (fin i (q5 arg3 harg3 x0) (q9 arg3 harg3 x0) x1 x2 mp q).2.1
    ∧ (fun d => View.canon (kernelRun0_A.sl.HS2_8 (F := Ideal) c i arg3 harg3 arg4 harg4 arg5 harg5 arg6 harg6 arg7 harg7 arg8 harg8 arg9 harg9 arg10 harg10 arg11 harg11 hc1 x0 x1 x2) (ix3 mp d q)) = (fin i (q5 arg3 harg3 x0) (q9 arg3 harg3 x0) x1 x2 mp q).2.2 := by
  have he := even i hc1
  have h := last_col i arg4 harg4 arg5 harg5 arg9 arg10 arg11 (q5 arg3 harg3 x0) (q9 arg3 harg3 x0) x1 x2 _ (k0_off13_inb i hc1) (off13 i) _ (k0_off14_inb i hc1) (off14 i)
    (bMA c i arg3 harg3 arg4 harg4 arg5 harg5 arg6 harg6 arg7 harg7 arg8 harg8 arg9 harg9 arg10 harg10 arg11 harg11 x0 x1 x2) (bLA c i arg3 harg3 arg4 harg4 arg5 harg5 arg6 harg6 arg7 harg7 arg8 harg8 arg9 harg9 arg10 harg10 arg11 harg11 x0 x1 x2) (bAA c i arg3 harg3 arg4 harg4 arg5 harg5 arg6 harg6 arg7 harg7 arg8 harg8 arg9 harg9 arg10 harg10 arg11 harg11 x0 x1 x2) mp q
    ((bas_col c i arg3 harg3 arg4 harg4 arg5 harg5 arg6 harg6 arg7 harg7 arg8 harg8 arg9 harg9 arg10 harg10 arg11 harg11 (q5 arg3 harg3 x0) (q9 arg3 harg3 x0) x1 x2 _ _ _ mp q).trans (by rw [show 2 * ((i 2).val / 2) = (i 2).val by omega]))
  have eL := listL_A c i arg3 harg3 arg4 harg4 arg5 harg5 arg6 harg6 arg7 harg7 arg8 harg8 arg9 harg9 arg10 harg10 arg11 harg11 x0 x1 x2 hc1
  have eA := listA_A c i arg3 harg3 arg4 harg4 arg5 harg5 arg6 harg6 arg7 harg7 arg8 harg8 arg9 harg9 arg10 harg10 arg11 harg11 x0 x1 x2 hc1
  exact of_col eL eA h

end Even

/-! ## The stores of an odd place -/

section Odd

variable (hc0 : cond0_0 i) (hc1 : ¬cond0_1 i)

abbrev scB0 : ℕ → FVec Ideal S1024x256 .f32 := sc (keysAt arg4 (harg4.unread x1) (k0_off9 i) (k0_off9_inb i hc0)) (q5 arg3 harg3 x0) (q9 arg3 harg3 x0)
abbrev vlB0 : FVec Ideal S128x1024 .bf16 := valsAt arg5 (harg5.unread x2) (k0_off10 i) (k0_off10_inb i hc0)
abbrev scB : ℕ → FVec Ideal S1024x256 .f32 := msk (sc (keysAt arg4 (harg4.unread x1) (k0_off11 i) (k0_off11_inb i hc0)) (q5 arg3 harg3 x0) (q9 arg3 harg3 x0))
abbrev vlB : FVec Ideal S128x1024 .bf16 := valsAt arg5 (harg5.unread x2) (k0_off12 i) (k0_off12_inb i hc0)
abbrev bMB : Rows := basM c i arg3 harg3 arg4 harg4 arg5 harg5 arg6 harg6 arg7 harg7 arg8 harg8 arg9 harg9 arg10 harg10 arg11 harg11 (q5 arg3 harg3 x0) (q9 arg3 harg3 x0) x1 x2 (kernelRun0_B.sl.v22 i) (kernelRun0_B.sl.v27 i) (kernelRun0_B.sl.v43 i)
abbrev bLB : Rows := basL c i arg3 harg3 arg4 harg4 arg5 harg5 arg6 harg6 arg7 harg7 arg8 harg8 arg9 harg9 arg10 harg10 arg11 harg11 (q5 arg3 harg3 x0) (q9 arg3 harg3 x0) x1 x2 (kernelRun0_B.sl.v22 i) (kernelRun0_B.sl.v27 i) (kernelRun0_B.sl.v43 i)
abbrev bAB : Accs := basA c i arg3 harg3 arg4 harg4 arg5 harg5 arg6 harg6 arg7 harg7 arg8 harg8 arg9 harg9 arg10 harg10 arg11 harg11 (q5 arg3 harg3 x0) (q9 arg3 harg3 x0) x1 x2 (kernelRun0_B.sl.v22 i) (kernelRun0_B.sl.v27 i) (kernelRun0_B.sl.v43 i)
abbrev mB : Rows := mList (scB0 i arg3 harg3 arg4 harg4 x0 x1 hc0) (covM arg9) (bMB c i arg3 harg3 arg4 harg4 arg5 harg5 arg6 harg6 arg7 harg7 arg8 harg8 arg9 harg9 arg10 harg10 arg11 harg11 x0 x1 x2) 8
abbrev lB : Rows := lList (scB0 i arg3 harg3 arg4 harg4 x0 x1 hc0) (covM arg9) (covM arg10) (bMB c i arg3 harg3 arg4 harg4 arg5 harg5 arg6 harg6 arg7 harg7 arg8 harg8 arg9 harg9 arg10 harg10 arg11 harg11 x0 x1 x2) (bLB c i arg3 harg3 arg4 harg4 arg5 harg5 arg6 harg6 arg7 harg7 arg8 harg8 arg9 harg9 arg10 harg10 arg11 harg11 x0 x1 x2) 8
abbrev aB : Accs := aList (scB0 i arg3 harg3 arg4 harg4 x0 x1 hc0) (vlB0 i arg5 harg5 x2 hc0) (covM arg9) (covA arg11) (bMB c i arg3 harg3 arg4 harg4 arg5 harg5 arg6 harg6 arg7 harg7 arg8 harg8 arg9 harg9 arg10 harg10 arg11 harg11 x0 x1 x2) (bAB c i arg3 harg3 arg4 harg4 arg5 harg5 arg6 harg6 arg7 harg7 arg8 harg8 arg9 harg9 arg10 harg10 arg11 harg11 x0 x1 x2) 8

theorem listL_B : kernelRun0_B.sl.HS1_16 (F := Ideal) c i arg3 harg3 arg4 harg4 arg5 harg5 arg6 harg6 arg7 harg7 arg8 harg8 arg9 harg9 arg10 harg10 arg11 harg11 hc0 x0 x1 x2
    = lList (scB i arg3 harg3 arg4 harg4 x0 x1 hc0) (covM arg9) (covM arg10) (mB c i arg3 harg3 arg4 harg4 arg5 harg5 arg6 harg6 arg7 harg7 arg8 harg8 arg9 harg9 arg10 harg10 arg11 harg11 x0 x1 x2 hc0) (lB c i arg3 harg3 arg4 harg4 arg5 harg5 arg6 harg6 arg7 harg7 arg8 harg8 arg9 harg9 arg10 harg10 arg11 harg11 x0 x1 x2 hc0) 8 := by
  sl_kernel_rfl

theorem listA_B : kernelRun0_B.sl.HS2_16 (F := Ideal) c i arg3 harg3 arg4 harg4 arg5 harg5 arg6 harg6 arg7 harg7 arg8 harg8 arg9 harg9 arg10 harg10 arg11 harg11 hc0 x0 x1 x2
    = aList (scB i arg3 harg3 arg4 harg4 x0 x1 hc0) (vlB i arg5 harg5 x2 hc0) (covM arg9) (covA arg11) (mB c i arg3 harg3 arg4 harg4 arg5 harg5 arg6 harg6 arg7 harg7 arg8 harg8 arg9 harg9 arg10 harg10 arg11 harg11 x0 x1 x2 hc0) (aB c i arg3 harg3 arg4 harg4 arg5 harg5 arg6 harg6 arg7 harg7 arg8 harg8 arg9 harg9 arg10 harg10 arg11 harg11 x0 x1 x2 hc0) 8 := by
  sl_kernel_rfl

/-- The sums and weighted sums an odd place ends with. -/
theorem end_B (mp : Fin 2) (q : Fin 1024) :
    View.canon (kernelRun0_B.sl.HS1_16 (F := Ideal) c i arg3 harg3 arg4 harg4 arg5 harg5 arg6 harg6 arg7 harg7 arg8 harg8 arg9 harg9 arg10 harg10 arg11 harg11 hc0 x0 x1 x2) (ix3 mp 0 q) = (fin i (q5 arg3 harg3 x0) (q9 arg3 harg3 x0) x1 x2 mp q).2.1
    ∧ (fun d => View.canon (kernelRun0_B.sl.HS2_16 (F := Ideal) c i arg3 harg3 arg4 harg4 arg5 harg5 arg6 harg6 arg7 harg7 arg8 harg8 arg9 harg9 arg10 harg10 arg11 harg11 hc0 x0 x1 x2) (ix3 mp d q)) = (fin i (q5 arg3 harg3 x0) (q9 arg3 harg3 x0) x1 x2 mp q).2.2 := by
  have h := last_col i arg4 harg4 arg5 harg5 arg9 arg10 arg11 (q5 arg3 harg3 x0) (q9 arg3 harg3 x0) x1 x2 _ (k0_off11_inb i hc0) (off11 i) _ (k0_off12_inb i hc0) (off12 i)
    (mB c i arg3 harg3 arg4 harg4 arg5 harg5 arg6 harg6 arg7 harg7 arg8 harg8 arg9 harg9 arg10 harg10 arg11 harg11 x0 x1 x2 hc0) (lB c i arg3 harg3 arg4 harg4 arg5 harg5 arg6 harg6 arg7 harg7 arg8 harg8 arg9 harg9 arg10 harg10 arg11 harg11 x0 x1 x2 hc0) (aB c i arg3 harg3 arg4 harg4 arg5 harg5 arg6 harg6 arg7 harg7 arg8 harg8 arg9 harg9 arg10 harg10 arg11 harg11 x0 x1 x2 hc0) mp q
    (prev_col i arg4 harg4 arg5 harg5 arg9 arg10 arg11 (q5 arg3 harg3 x0) (q9 arg3 harg3 x0) x1 x2 hc0 _ _ _ mp q (bas_col c i arg3 harg3 arg4 harg4 arg5 harg5 arg6 harg6 arg7 harg7 arg8 harg8 arg9 harg9 arg10 harg10 arg11 harg11 (q5 arg3 harg3 x0) (q9 arg3 harg3 x0) x1 x2 _ _ _ mp q))
  have eL := listL_B c i arg3 harg3 arg4 harg4 arg5 harg5 arg6 harg6 arg7 harg7 arg8 harg8 arg9 harg9 arg10 harg10 arg11 harg11 x0 x1 x2 hc0
  have eA := listA_B c i arg3 harg3 arg4 harg4 arg5 harg5 arg6 harg6 arg7 harg7 arg8 harg8 arg9 harg9 arg10 harg10 arg11 harg11 x0 x1 x2 hc0
  exact of_col eL eA h

end Odd

end A
end Cert.Proof.Diff

end

end
-- ==== Proof.DiffNorm.lean ====
/- What the differential attention does with the two maps' sums: the difference of their averages, normalised over the head. -/
module

public import proofs.«01_k».proof.Proof.DiffChain

@[expose] public section

noncomputable section

namespace Cert.Proof.Diff

open Idealize.ShloMosaic Idealize.ShloMosaic.TcCoe Idealize.ShloMosaic.ValueIdx
open Cert.KernelIdeal Cert.KernelIdeal.Gen
open scoped BigOperators

/-- The factor of the second map. -/
def lamOf (dl : S4x64.Idx → EReal) : EReal :=
  Ideal.exp (∑ d : Fin 64, dl (ix2 0 d) * dl (ix2 1 d)) - Ideal.exp (∑ d : Fin 64, dl (ix2 2 d) * dl (ix2 3 d))
    + Ideal.ofBits .f32 0x3E4CCCCD#32

/-- A head's difference of averages, divided by the root of its mean square, scaled. -/
def normed (o g : Fin 128 → EReal) (d : Fin 128) : EReal :=
  o d * Ideal.rsqrt (Ideal.div (∑ e, o e * o e) (Ideal.ofBits .f32 0x43000000#32) + Ideal.ofBits .f32 0x3727C5AC#32) * g d
    * Ideal.ofBits .f32 0x3F4CCCCD#32

/-- The difference of a query's two averages, from the two maps' states. -/
def oAt (dl : S4x64.Idx → EReal) (t0 t1 : Col) (d : Fin 128) : EReal :=
  Ideal.div (t0.2.2 d) t0.2.1 - lamOf dl * Ideal.div (t1.2.2 d) t1.2.1

/-- Row `n` of the four vectors. -/
theorem vec_apply (dl : FVec Ideal S4x64 .f32) (n : Fin 4) (off : Fin 2 → ℕ) (h : S4x64.Slices off S1x64) (ho : off = ![n.val, 0]) (d : Fin 64) :
    extractStridedSlice S1x64 off dl h (ix2 0 d) = dl (ix2 n d) := by
  subst ho
  exact extractStridedSlice_apply _ dl h (ix2 0 d) (ix2 n d) (fun a => match a with
    | ⟨0, _⟩ => by show n.val = n.val + 0; omega
    | ⟨1, _⟩ => by show d.val = 0 + d.val; omega)

/-- The sum over a row of one. -/
theorem rowsum_apply (x : FVec Ideal S1x64 .f32) :
    shapeCast S1x1 (multiReduction .add [1] S1 x 0x00000000#32 reduces_S1x64_S1 (.inl rfl) rfl) shapeCasts_S1_S1x1 (ix2 0 0)
      = ∑ d : Fin 64, x (ix2 0 d) := by
  refine (shapeCast_apply _ shapeCasts_S1_S1x1 (ix2 0 0) (ix1 0) (by
    rw [Shape.rowMajor_val_two, Shape.rowMajor_val_one]; rfl)).trans ?_
  refine (Ideal.multiReduction_add_single x _ _ _ _ (ix1 0)).trans ?_
  refine Finset.sum_congr rfl fun k _ => congrArg x ?_
  funext a; apply Fin.ext
  match a with
  | ⟨0, _⟩ => rfl
  | ⟨1, _⟩ => rfl

variable (dl : FVec Ideal S4x64 .f32) (v86 : Vec Ideal S1x128x1024 .f32) (v88 : Vec Ideal S1x1x1024 .f32)
  (v92 : Vec Ideal S1x128x1024 .f32) (v94 : Vec Ideal S1x1x1024 .f32) (q : Fin 1024)

theorem plane_apply (x : Vec Ideal S1x128x1024 .f32) (d : Fin 128) :
    shapeCast S128x1024 x shapeCasts_S1x128x1024_S128x1024 (ix2 d q) = x (ix3 0 d q) :=
  shapeCast_apply x shapeCasts_S1x128x1024_S128x1024 (ix2 d q) (ix3 0 d q) (by
    rw [Shape.rowMajor_val_two, Shape.rowMajor_val_three]
    show (0 * 128 + d.val) * 1024 + q.val = d.val * 1024 + q.val; omega)

theorem line_apply (x : Vec Ideal S1x1x1024 .f32) :
    shapeCast S1x1024 x shapeCasts_S1x1x1024_S1x1024 (ix2 0 q) = x (ix3 0 0 q) :=
  shapeCast_apply x shapeCasts_S1x1x1024_S1x1024 (ix2 0 q) (ix3 0 0 q) (by
    rw [Shape.rowMajor_val_two, Shape.rowMajor_val_three]; show (0 * 1 + 0) * 1024 + q.val = 0 * 1024 + q.val; omega)

theorem bcol_apply (x : FVec Ideal S1x1024 .f32) (d : Fin 128) :
    broadcastTo S128x1024 x broadcasts_S1x1024_S128x1024 (ix2 d q) = x (ix2 0 q) :=
  broadcastTo_apply _ _ _ (ix2 0 q) (fun a => match a with | ⟨0, _⟩ => rfl | ⟨1, _⟩ => rfl)

theorem brow_apply (x : FVec Ideal S128x1 .f32) (d : Fin 128) :
    broadcastTo S128x1024 x broadcasts_S128x1_S128x1024 (ix2 d q) = x (ix2 d 0) :=
  broadcastTo_apply _ _ _ (ix2 d 0) (fun a => match a with | ⟨0, _⟩ => rfl | ⟨1, _⟩ => rfl)

theorem bone_apply (x : FVec Ideal S1x1 .f32) (d : Fin 128) :
    broadcastTo S128x1024 x broadcasts_S1x1_S128x1024 (ix2 d q) = x (ix2 0 0) :=
  broadcastTo_apply _ _ _ (ix2 0 0) (fun a => match a with | ⟨0, _⟩ => rfl | ⟨1, _⟩ => rfl)

/-- The product of two of the four vectors, exponentiated. -/
theorem dots_apply (n m : Fin 4) (o o' : Fin 2 → ℕ) (h : S4x64.Slices o S1x64) (h' : S4x64.Slices o' S1x64) (ho : o = ![n.val, 0]) (ho' : o' = ![m.val, 0]) :
    shapeCast S1x1 (multiReduction .add [1] S1 (mulf (extractStridedSlice S1x64 o dl h) (extractStridedSlice S1x64 o' dl h')) 0x00000000#32
      reduces_S1x64_S1 (.inl rfl) rfl) shapeCasts_S1_S1x1 (ix2 0 0) = ∑ d : Fin 64, dl (ix2 n d) * dl (ix2 m d) := by
  rw [rowsum_apply]
  refine Finset.sum_congr rfl fun d _ => ?_
  show extractStridedSlice S1x64 o dl h (ix2 0 d) * extractStridedSlice S1x64 o' dl h' (ix2 0 d) = _
  rw [vec_apply dl n o h ho, vec_apply dl m o' h' ho']

/-- The difference of the averages, at a column. -/
theorem pay631_apply (d : Fin 128) : k0_pay631 (F := Ideal) dl v86 v88 v92 v94 (ix2 d q)
    = Ideal.div (v86 (ix3 0 d q)) (v88 (ix3 0 0 q)) - lamOf dl * Ideal.div (v92 (ix3 0 d q)) (v94 (ix3 0 0 q)) := by
  unfold k0_pay631
  dsimp only
  show Ideal.div (shapeCast S128x1024 v86 _ (ix2 d q)) (broadcastTo S128x1024 _ broadcasts_S1x1024_S128x1024 (ix2 d q))
    - broadcastTo S128x1024 _ broadcasts_S1x1_S128x1024 (ix2 d q)
      * Ideal.div (shapeCast S128x1024 v92 _ (ix2 d q)) (broadcastTo S128x1024 _ broadcasts_S1x1024_S128x1024 (ix2 d q)) = _
  rw [bcol_apply, bcol_apply, bone_apply, plane_apply, plane_apply, line_apply, line_apply]
  refine congrArg (fun z : EReal => Ideal.div (v86 (ix3 0 d q)) (v88 (ix3 0 0 q)) - z * Ideal.div (v92 (ix3 0 d q)) (v94 (ix3 0 0 q))) ?_
  show Ideal.exp (shapeCast S1x1 _ shapeCasts_S1_S1x1 (ix2 0 0)) - Ideal.exp (shapeCast S1x1 _ shapeCasts_S1_S1x1 (ix2 0 0)) + _ = _
  exact congrArg₂ (fun a c : EReal => Ideal.exp a - Ideal.exp c + Ideal.ofBits .f32 0x3E4CCCCD#32)
    (dots_apply dl 0 1 _ _ _ _ rfl rfl) (dots_apply dl 2 3 _ _ _ _ rfl rfl)

/-- The sum of squares over the head, at a column. -/
theorem pay632_apply : k0_pay632 (F := Ideal) dl v86 v88 v92 v94 (ix2 0 q)
    = ∑ e : Fin 128, k0_pay631 (F := Ideal) dl v86 v88 v92 v94 (ix2 e q) * k0_pay631 (F := Ideal) dl v86 v88 v92 v94 (ix2 e q) := by
  unfold k0_pay632
  dsimp only
  refine (shapeCast_apply _ shapeCasts_S1024_S1x1024 (ix2 0 q) (ix1 q) (by
    rw [Shape.rowMajor_val_two, Shape.rowMajor_val_one]; show q.val = 0 * 1024 + q.val; omega)).trans ?_
  refine (Ideal.multiReduction_add_single _ _ _ _ _ (ix1 q)).trans ?_
  refine Finset.sum_congr rfl fun e _ => ?_
  have he : reduces_S128x1024_S1024.lift (ix1 q) e = ix2 e q := by
    funext a; apply Fin.ext
    match a with
    | ⟨0, _⟩ => rfl
    | ⟨1, _⟩ => rfl
  rw [he]
  rfl

theorem flip_apply (x : FVec Ideal S128x1024 .f32) (d : Fin 128) :
    transpose S1024x128 [1, 0] x transposes_S128x1024_p1_0_S1024x128 (ix2 q d) = x (ix2 d q) :=
  transpose_apply [1, 0] x transposes_S128x1024_p1_0_S1024x128 (ix2 q d) (ix2 d q) (fun b => match b with
    | ⟨0, _⟩ => rfl
    | ⟨1, _⟩ => rfl)

theorem trunc_apply (x : FVec Ideal S1024x128 .f32) (i : S1024x128.Idx) : (truncf .bf16 x bitsLt_bf16_f32 : FVec Ideal S1024x128 .bf16) i = x i := rfl

/-- The block's result at a query and a place of the head. -/
theorem pay1_apply (g : Vec Ideal S128x1 .f32) (d : Fin 128) :
    k0_pay1 (F := Ideal) (k0_pay631 dl v86 v88 v92 v94) (k0_pay632 dl v86 v88 v92 v94) k0_pay633 g (ix2 q d)
      = normed (fun e => Ideal.div (v86 (ix3 0 e q)) (v88 (ix3 0 0 q)) - lamOf dl * Ideal.div (v92 (ix3 0 e q)) (v94 (ix3 0 0 q)))
          (fun e => g (ix2 e 0)) d := by
  unfold k0_pay1
  dsimp only
  rw [trunc_apply, flip_apply]
  show k0_pay631 (F := Ideal) dl v86 v88 v92 v94 (ix2 d q) * broadcastTo S128x1024 _ broadcasts_S1x1024_S128x1024 (ix2 d q)
    * broadcastTo S128x1024 _ broadcasts_S128x1_S128x1024 (ix2 d q) * _ = _
  rw [bcol_apply, brow_apply]
  show _ * Ideal.rsqrt (Ideal.div (k0_pay632 (F := Ideal) dl v86 v88 v92 v94 (ix2 0 q)) _ + _) * shapeCast S128x1 g shapeCasts_S128x1_S128x1 (ix2 d 0) * _ = _
  rw [shapeCast_apply g shapeCasts_S128x1_S128x1 (ix2 d 0) (ix2 d 0) rfl, pay632_apply]
  simp only [pay631_apply]
  rfl

end Cert.Proof.Diff

end
-- ==== Proof.DiffOut.lean ====
/- What a grid point writes: the difference of its queries' averages, normalised. -/
module

public import proofs.«01_k».proof.Proof.DiffState
public import proofs.«01_k».proof.Proof.DiffNorm

@[expose] public section

set_option maxRecDepth 100000
set_option maxHeartbeats 1000000

noncomputable section

namespace Cert.Proof.Diff

open Idealize.ShloMosaic Idealize.ShloMosaic.TcCoe Idealize.ShloMosaic.ValueIdx
open Cert.KernelIdeal Cert.KernelIdeal.Gen

theorem zeros2 : (![0, 0] : Fin 2 → ℕ) = fun _ => 0 := by
  funext a; match a with | ⟨0, _⟩ => rfl | ⟨1, _⟩ => rfl

/-! ## The two halves of the queries -/

theorem slt64 : ∀ a : Fin 128, IntOp.cmpi .slt (BitVec.ofNat 32 a.val) 64#32 = if a.val / 64 = 0 then 1#1 else 0#1 := by decide +kernel
theorem sge64 : ∀ a : Fin 128, IntOp.cmpi .sge (BitVec.ofNat 32 a.val) 64#32 = if a.val / 64 = 1 then 1#1 else 0#1 := by decide +kernel

theorem zero_bf16 : Ideal.ofBits .bf16 0x0000#16 = 0 := by
  simp [Ideal.ofBits, Ideal.ieee]

theorem pay622_apply (x : FVec Ideal S1024x128 .bf16) (q : Fin 1024) (d : Fin 128) :
    (k0_pay622 (F := Ideal) x (ix2 q d) : EReal) = if d.val / 64 = 0 then (x (ix2 q d) : EReal) else 0 := by
  have i1 : iota .tc S1024x128 32 [1] iota_S1024x128_d1_w32 (ix2 q d) = BitVec.ofNat 32 d.val := iota_single_apply _ _ _ _ _ _
  have e : (k0_pay622 (F := Ideal) x (ix2 q d) : EReal) = Scalar.select (IntOp.cmpi .slt (iota .tc S1024x128 32 [1] iota_S1024x128_d1_w32 (ix2 q d)) 64#32)
    (x (ix2 q d)) (Ideal.ofBits .bf16 0x0000#16) := rfl
  rw [e, i1, slt64, zero_bf16]
  by_cases hd : d.val / 64 = 0
  · rw [if_pos hd, if_pos hd]; rfl
  · rw [if_neg hd, if_neg hd]; rfl

theorem pay623_apply (x : FVec Ideal S1024x128 .bf16) (q : Fin 1024) (d : Fin 128) :
    (k0_pay623 (F := Ideal) x (ix2 q d) : EReal) = if d.val / 64 = 1 then (x (ix2 q d) : EReal) else 0 := by
  have i1 : iota .tc S1024x128 32 [1] iota_S1024x128_d1_w32 (ix2 q d) = BitVec.ofNat 32 d.val := iota_single_apply _ _ _ _ _ _
  have e : (k0_pay623 (F := Ideal) x (ix2 q d) : EReal) = Scalar.select (IntOp.cmpi .sge (iota .tc S1024x128 32 [1] iota_S1024x128_d1_w32 (ix2 q d)) 64#32)
    (x (ix2 q d)) (Ideal.ofBits .bf16 0x0000#16) := rfl
  rw [e, i1, sge64, zero_bf16]
  by_cases hd : d.val / 64 = 1
  · rw [if_pos hd, if_pos hd]; rfl
  · rw [if_neg hd, if_neg hd]; rfl

/-- The queries of a map: its half of the lanes, the other zero. -/
theorem half_apply (arg3 : Memref sig .tc .vmem S1024x128 .bf16) (harg3 : arg3.IsWhole) (x0 : Vec Ideal S1024x128 .bf16) (mp : Fin 2) (q : Fin 1024)
    (d : Fin 128) : (if mp = 0 then q5 arg3 harg3 x0 else q9 arg3 harg3 x0) (ix2 q d) = if d.val / 64 = mp.val then x0 (ix2 q d) else 0 := by
  have e : View.readAt (Elt Ideal) arg3.view (Rect.unit (s := S1024x128) ![0, 0] S1024x128.size inb_S1024x128_S1024x128_0_0).toLoadRect
      (harg3.unread x0) = x0 := by
    rw [View.readAt_eq_ld, harg3.read_unread, View.ld_unit_zero (S := S1024x128) zeros2]
  match mp with
  | ⟨0, _⟩ =>
    show q5 arg3 harg3 x0 (ix2 q d) = _
    unfold q5
    rw [e, pay622_apply]
  | ⟨1, _⟩ =>
    show q9 arg3 harg3 x0 (ix2 q d) = _
    unfold q9
    rw [e, pay623_apply]

/-! ## The last reads of the states -/

/-- A plane of the weighted sums as the end reads it. -/
theorem plane_read (b11 : Memref sig .tc .vmem S2x128x1024 .f32) (L : Accs) (mp : Fin 2) (off : Fin 3 → ℕ)
    (hb : ∀ a, off a + S1x128x1024.size a ≤ S2x128x1024.size a) (ho : off = ![mp.val, 0, 0]) (d : Fin 128) (q : Fin 1024) :
    b11.view.readCov L (Rect.unit (s := S2x128x1024) off S1x128x1024.size hb).toLoadRect (ix3 0 d q) = View.canon L (ix3 mp d q) := by
  subst ho
  refine (congrFun (View.readCov_eq_canon' b11.view L
    (Rect.unit (s := S2x128x1024) ![mp.val, 0, 0] S1x128x1024.size hb).toLoadRect) (ix3 0 d q)).trans (congrArg (View.canon L) (funext fun a => Fin.ext ?_))
  match a with
  | ⟨0, _⟩ => show mp.val + 1 * 0 = mp.val; omega
  | ⟨1, _⟩ => show 0 + 1 * d.val = d.val; omega
  | ⟨2, _⟩ => show 0 + 1 * q.val = q.val; omega

/-- A row of the sums as the end reads it. -/
theorem row_read (b10 : Memref sig .tc .vmem S2x1x1024 .f32) (L : Rows) (mp : Fin 2) (off : Fin 3 → ℕ)
    (hb : ∀ a, off a + S1x1x1024.size a ≤ S2x1x1024.size a) (ho : off = ![mp.val, 0, 0]) (q : Fin 1024) :
    b10.view.readCov L (Rect.unit (s := S2x1x1024) off S1x1x1024.size hb).toLoadRect (ix3 0 0 q) = View.canon L (ix3 mp 0 q) := by
  subst ho
  refine (congrFun (View.readCov_eq_canon' b10.view L
    (Rect.unit (s := S2x1x1024) ![mp.val, 0, 0] S1x1x1024.size hb).toLoadRect) (ix3 0 0 q)).trans (congrArg (View.canon L) (funext fun a => Fin.ext ?_))
  match a with
  | ⟨0, _⟩ => show mp.val + 1 * 0 = mp.val; omega
  | ⟨1, _⟩ => rfl
  | ⟨2, _⟩ => show 0 + 1 * q.val = q.val; omega

/-- What is stored at the end, of lists whose columns are known. -/
theorem tail_apply (arg6 : Memref sig .tc .vmem S4x64 .f32) (harg6 : arg6.IsWhole) (arg7 : Memref sig .tc .vmem S128x1 .f32) (harg7 : arg7.IsWhole)
    (b10 : Memref sig .tc .vmem S2x1x1024 .f32) (b11 : Memref sig .tc .vmem S2x128x1024 .f32)
    (x3 : Vec Ideal S4x64 .f32) (x4 : Vec Ideal S128x1 .f32) (HL : Rows) (HA : Accs) (q : Fin 1024) (t : Fin 2 → Col)
    (ht : ∀ mp, View.canon HL (ix3 mp 0 q) = (t mp).2.1 ∧ (fun d => View.canon HA (ix3 mp d q)) = (t mp).2.2) (d : Fin 128) :
    k0_pay1
      (k0_pay631 (View.readAt (Elt Ideal) arg6.view (Rect.unit (s := S4x64) ![0, 0] S4x64.size inb_S4x64_S4x64_0_0).toLoadRect (harg6.unread x3))
        (b11.view.readCov HA (Rect.unit (s := S2x128x1024) ![0, 0, 0] S1x128x1024.size inb_S2x128x1024_S1x128x1024_0_0_0).toLoadRect)
        (b10.view.readCov HL (Rect.unit (s := S2x1x1024) ![0, 0, 0] S1x1x1024.size inb_S2x1x1024_S1x1x1024_0_0_0).toLoadRect)
        (b11.view.readCov HA (Rect.unit (s := S2x128x1024) ![1, 0, 0] S1x128x1024.size inb_S2x128x1024_S1x128x1024_1_0_0).toLoadRect)
        (b10.view.readCov HL (Rect.unit (s := S2x1x1024) ![1, 0, 0] S1x1x1024.size inb_S2x1x1024_S1x1x1024_1_0_0).toLoadRect))
      (k0_pay632 (View.readAt (Elt Ideal) arg6.view (Rect.unit (s := S4x64) ![0, 0] S4x64.size inb_S4x64_S4x64_0_0).toLoadRect (harg6.unread x3))
        (b11.view.readCov HA (Rect.unit (s := S2x128x1024) ![0, 0, 0] S1x128x1024.size inb_S2x128x1024_S1x128x1024_0_0_0).toLoadRect)
        (b10.view.readCov HL (Rect.unit (s := S2x1x1024) ![0, 0, 0] S1x1x1024.size inb_S2x1x1024_S1x1x1024_0_0_0).toLoadRect)
        (b11.view.readCov HA (Rect.unit (s := S2x128x1024) ![1, 0, 0] S1x128x1024.size inb_S2x128x1024_S1x128x1024_1_0_0).toLoadRect)
        (b10.view.readCov HL (Rect.unit (s := S2x1x1024) ![1, 0, 0] S1x1x1024.size inb_S2x1x1024_S1x1x1024_1_0_0).toLoadRect))
      k0_pay633
      (View.readAt (Elt Ideal) arg7.view (Rect.unit (s := S128x1) ![0, 0] S128x1.size inb_S128x1_S128x1_0_0).toLoadRect (harg7.unread x4)) (ix2 q d)
    = normed (oAt x3 (t 0) (t 1)) (fun e => x4 (ix2 e 0)) d := by
  have e3 : View.readAt (Elt Ideal) arg6.view (Rect.unit (s := S4x64) ![0, 0] S4x64.size inb_S4x64_S4x64_0_0).toLoadRect (harg6.unread x3) = x3 := by
    rw [View.readAt_eq_ld, harg6.read_unread, View.ld_unit_zero (S := S4x64) zeros2]
  have e4 : View.readAt (Elt Ideal) arg7.view (Rect.unit (s := S128x1) ![0, 0] S128x1.size inb_S128x1_S128x1_0_0).toLoadRect (harg7.unread x4) = x4 := by
    rw [View.readAt_eq_ld, harg7.read_unread, View.ld_unit_zero (S := S128x1) zeros2]
  rw [e3, e4, pay1_apply]
  refine congrArg (fun o => normed o (fun e => x4 (ix2 e 0)) d) (funext fun e => ?_)
  rw [plane_read b11 HA 0 ![0, 0, 0] _ rfl, plane_read b11 HA 1 ![1, 0, 0] _ rfl, row_read b10 HL 0 ![0, 0, 0] _ rfl,
    row_read b10 HL 1 ![1, 0, 0] _ rfl, (ht 0).1, (ht 1).1]
  unfold oAt
  rw [← (ht 0).2, ← (ht 1).2]

section A
variable (c : Dev nD) (i : grid0.Coords) (arg3 : Memref sig .tc .vmem S1024x128 .bf16) (harg3 : arg3.IsWhole)
  (arg4 : Memref sig .tc .vmem S8192x128 .bf16) (harg4 : arg4.IsWhole) (arg5 : Memref sig .tc .vmem S8x128x1024 .bf16)
  (harg5 : arg5.IsWhole) (arg6 : Memref sig .tc .vmem S4x64 .f32) (harg6 : arg6.IsWhole)
  (arg7 : Memref sig .tc .vmem S128x1 .f32) (harg7 : arg7.IsWhole) (arg8 : Memref sig .tc .vmem S1024x128 .bf16)
  (harg8 : arg8.IsWhole) (arg9 : Memref sig .tc .vmem S2x1x1024 .f32) (harg9 : arg9.IsWhole)
  (arg10 : Memref sig .tc .vmem S2x1x1024 .f32) (harg10 : arg10.IsWhole) (arg11 : Memref sig .tc .vmem S2x128x1024 .f32)
  (harg11 : arg11.IsWhole) (x0 : Vec Ideal S1024x128 .bf16) (x1 : Vec Ideal S8192x128 .bf16)
  (x2 : Vec Ideal S8x128x1024 .bf16) (x3 : Vec Ideal S4x64 .f32) (x4 : Vec Ideal S128x1 .f32)

/-- An even place's block. -/
theorem out_A (hc0 : ¬cond0_0 i) (hc1 : cond0_1 i) (q : Fin 1024) (d : Fin 128) :
    out0_A_5 (F := Ideal) c i arg3 harg3 arg4 harg4 arg5 harg5 arg6 harg6 arg7 harg7 arg8 harg8 arg9 harg9 arg10 harg10 arg11 harg11 hc0 hc1 x0 x1 x2 x3 x4 (ix2 q d)
      = normed (oAt x3 (fin i (q5 arg3 harg3 x0) (q9 arg3 harg3 x0) x1 x2 0 q) (fin i (q5 arg3 harg3 x0) (q9 arg3 harg3 x0) x1 x2 1 q)) (fun e => x4 (ix2 e 0)) d := by
  have h := tail_apply arg6 harg6 arg7 harg7 arg10 arg11 x3 x4
    (kernelRun0_A.sl.HS1_8 (F := Ideal) c i arg3 harg3 arg4 harg4 arg5 harg5 arg6 harg6 arg7 harg7 arg8 harg8 arg9 harg9 arg10 harg10 arg11 harg11 hc1 x0 x1 x2) (kernelRun0_A.sl.HS2_8 (F := Ideal) c i arg3 harg3 arg4 harg4 arg5 harg5 arg6 harg6 arg7 harg7 arg8 harg8 arg9 harg9 arg10 harg10 arg11 harg11 hc1 x0 x1 x2) q
    (fun mp => fin i (q5 arg3 harg3 x0) (q9 arg3 harg3 x0) x1 x2 mp q) (fun mp => end_A c i arg3 harg3 arg4 harg4 arg5 harg5 arg6 harg6 arg7 harg7 arg8 harg8 arg9 harg9 arg10 harg10 arg11 harg11 x0 x1 x2 hc1 mp q) d
  unfold out0_A_5
  rw [View.read_writes_eq_canon _ _ _ (cover0_A_5 c i arg3 harg3 arg4 harg4 arg5 harg5 arg6 harg6 arg7 harg7 arg8 harg8 arg9 harg9 arg10 harg10 arg11 harg11 hc0 hc1 x0 x1 x2 x3 x4)]
  unfold kernelRun0_A
  dsimp only
  rw [View.canon_unit_zero zeros2]
  exact h

/-- An odd place's block. -/
theorem out_B (hc0 : cond0_0 i) (hc1 : ¬cond0_1 i) (q : Fin 1024) (d : Fin 128) :
    out0_B_5 (F := Ideal) c i arg3 harg3 arg4 harg4 arg5 harg5 arg6 harg6 arg7 harg7 arg8 harg8 arg9 harg9 arg10 harg10 arg11 harg11 hc0 hc1 x0 x1 x2 x3 x4 (ix2 q d)
      = normed (oAt x3 (fin i (q5 arg3 harg3 x0) (q9 arg3 harg3 x0) x1 x2 0 q) (fin i (q5 arg3 harg3 x0) (q9 arg3 harg3 x0) x1 x2 1 q)) (fun e => x4 (ix2 e 0)) d := by
  have h := tail_apply arg6 harg6 arg7 harg7 arg10 arg11 x3 x4
    (kernelRun0_B.sl.HS1_16 (F := Ideal) c i arg3 harg3 arg4 harg4 arg5 harg5 arg6 harg6 arg7 harg7 arg8 harg8 arg9 harg9 arg10 harg10 arg11 harg11 hc0 x0 x1 x2) (kernelRun0_B.sl.HS2_16 (F := Ideal) c i arg3 harg3 arg4 harg4 arg5 harg5 arg6 harg6 arg7 harg7 arg8 harg8 arg9 harg9 arg10 harg10 arg11 harg11 hc0 x0 x1 x2) q
    (fun mp => fin i (q5 arg3 harg3 x0) (q9 arg3 harg3 x0) x1 x2 mp q) (fun mp => end_B c i arg3 harg3 arg4 harg4 arg5 harg5 arg6 harg6 arg7 harg7 arg8 harg8 arg9 harg9 arg10 harg10 arg11 harg11 x0 x1 x2 hc0 mp q) d
  unfold out0_B_5
  rw [View.read_writes_eq_canon _ _ _ (cover0_B_5 c i arg3 harg3 arg4 harg4 arg5 harg5 arg6 harg6 arg7 harg7 arg8 harg8 arg9 harg9 arg10 harg10 arg11 harg11 hc0 hc1 x0 x1 x2 x3 x4)]
  unfold kernelRun0_B
  dsimp only
  rw [View.canon_unit_zero zeros2]
  exact h

end A
end Cert.Proof.Diff

end

end
-- ==== Proof.DiffSoft.lean ====
/- The online softmax over finite scores and values: after any number of blocks a column's state is the plain sums of the
   weights, scaled by the largest score. -/
module

public import proofs.«01_k».proof.Proof.DiffChain

@[expose] public section

noncomputable section

namespace Cert.Proof.Diff

open Idealize.ShloMosaic
open scoped BigOperators

/-- A finite sum of reals, taken in the extended reals. -/
theorem coe_sum {ι : Type} (f : ι → ℝ) (S : Finset ι) : ((∑ k ∈ S, f k : ℝ) : EReal) = ∑ k ∈ S, (f k : EReal) := by
  classical
  induction S using Finset.induction_on with
  | empty => simp
  | insert a S ha ih => rw [Finset.sum_insert ha, Finset.sum_insert ha, EReal.coe_add, ih]

/-- The weight of a score: two to its power, nothing when it is masked. -/
def wt (s : EReal) : ℝ := (Ideal.exp2 s).toReal

theorem wt_coe (r : ℝ) : wt (r : EReal) = Real.rpow 2 r := by
  show ((Real.rpow 2 r : ℝ) : EReal).toReal = _
  rw [EReal.toReal_coe]

theorem wt_bot : wt ⊥ = 0 := by
  show (0 : EReal).toReal = 0
  exact EReal.toReal_zero

theorem wt_nonneg (s : EReal) (h : s ≠ ⊤) : 0 ≤ wt s := by
  induction s with
  | bot => rw [wt_bot]
  | top => exact absurd rfl h
  | coe r => rw [wt_coe]; exact Real.rpow_nonneg (by norm_num) r

theorem wt_pos (r : ℝ) : 0 < wt (r : EReal) := by
  rw [wt_coe]; exact Real.rpow_pos_of_pos (by norm_num) r

/-- The power of a score less a real number. -/
theorem exp2_sub (s : EReal) (h : s ≠ ⊤) (M : ℝ) : Ideal.exp2 (s - (M : EReal)) = ((Real.rpow 2 (-M) * wt s : ℝ) : EReal) := by
  induction s with
  | bot =>
    rw [EReal.bot_sub, wt_bot, mul_zero]
    rfl
  | top => exact absurd rfl h
  | coe r =>
    rw [wt_coe, ← EReal.coe_sub]
    show ((Real.rpow 2 (r - M) : ℝ) : EReal) = _
    refine congrArg _ ?_
    show (2 : ℝ) ^ (r - M) = (2 : ℝ) ^ (-M) * (2 : ℝ) ^ r
    rw [← Real.rpow_add (by norm_num)]
    congr 1; ring

/-- The largest of a block of scores, one of them not masked, is real. -/
theorem top_real (s : Fin 1024 → EReal) (hs : ∀ k, s k ≠ ⊤) (h : ∃ k, s k ≠ ⊥) : ∃ T : ℝ, top s = (T : EReal) := by
  have h1 : top s ≠ ⊤ := by
    unfold top
    intro e
    have : Finset.univ.sup s < ⊤ := (Finset.sup_lt_iff (by simp)).mpr fun k _ => lt_top_iff_ne_top.mpr (hs k)
    exact absurd e this.ne
  have h2 : top s ≠ ⊥ := by
    obtain ⟨k, hk⟩ := h
    intro e
    have : s k ≤ top s := Finset.le_sup (f := s) (Finset.mem_univ k)
    rw [e] at this
    exact hk (le_bot_iff.mp this)
  exact ⟨(top s).toReal, (EReal.coe_toReal h1 h2).symm⟩

/-- A column's state is the sums `L` and `A`, scaled by the largest score. -/
def Scaled (t : Col) (L : ℝ) (A : Fin 128 → ℝ) : Prop :=
  ∃ M : ℝ, t = ((M : EReal), ((Real.rpow 2 (-M) * L : ℝ) : EReal), fun d => ((Real.rpow 2 (-M) * A d : ℝ) : EReal))

/-- Likewise, or no block has been folded into it. -/
def Holds (t : Col) (L : ℝ) (A : Fin 128 → ℝ) : Prop :=
  (t = (⊥, 0, fun _ => 0) ∧ L = 0 ∧ A = fun _ => 0) ∨ Scaled t L A

theorem rescale (M M' L : ℝ) :
    Ideal.exp2 ((M : EReal) - (M' : EReal)) * ((Real.rpow 2 (-M) * L : ℝ) : EReal) = ((Real.rpow 2 (-M') * L : ℝ) : EReal) := by
  rw [exp2_sub _ (EReal.coe_ne_top M), wt_coe, ← EReal.coe_mul]
  refine congrArg _ ?_
  show (2 : ℝ) ^ (-M') * (2 : ℝ) ^ M * ((2 : ℝ) ^ (-M) * L) = (2 : ℝ) ^ (-M') * L
  have : (2 : ℝ) ^ M * (2 : ℝ) ^ (-M) = 1 := by rw [← Real.rpow_add (by norm_num)]; simp
  linear_combination ((2 : ℝ) ^ (-M') * L) * this

/-- A block adds its weights and its weighted values to the sums. -/
theorem upd_scaled (t : Col) (L : ℝ) (A : Fin 128 → ℝ) (ht : Holds t L A) (s : Fin 1024 → EReal) (hs : ∀ k, s k ≠ ⊤)
    (h : ∃ k, s k ≠ ⊥) (v : Fin 128 → Fin 1024 → EReal) (x : Fin 128 → Fin 1024 → ℝ) (hv : ∀ d k, v d k = (x d k : EReal)) :
    Scaled (upd s v t) (L + ∑ k, wt (s k)) (fun d => A d + ∑ k, x d k * wt (s k)) := by
  obtain ⟨T, hT⟩ := top_real s hs h
  have key : ∀ M' : ℝ, max t.1 (top s) = (M' : EReal) →
      Ideal.exp2 (t.1 - (M' : EReal)) * t.2.1 = ((Real.rpow 2 (-M') * L : ℝ) : EReal) →
      (∀ d, Ideal.exp2 (t.1 - (M' : EReal)) * t.2.2 d = ((Real.rpow 2 (-M') * A d : ℝ) : EReal)) →
      Scaled (upd s v t) (L + ∑ k, wt (s k)) (fun d => A d + ∑ k, x d k * wt (s k)) := by
    intro M' hM hL hA
    refine ⟨M', ?_⟩
    unfold upd
    rw [hM, hL]
    refine Prod.ext rfl (Prod.ext ?_ (funext fun d => ?_))
    · show _ + ∑ k, Ideal.exp2 (s k - (M' : EReal)) = _
      rw [Finset.sum_congr rfl fun k _ => exp2_sub (s k) (hs k) M', ← coe_sum, ← EReal.coe_add, ← Finset.mul_sum, ← mul_add]
    · show Ideal.exp2 (t.1 - (M' : EReal)) * t.2.2 d + ∑ k, v d k * Ideal.exp2 (s k - (M' : EReal)) = _
      have e : ∀ k, v d k * Ideal.exp2 (s k - (M' : EReal)) = ((Real.rpow 2 (-M') * (x d k * wt (s k)) : ℝ) : EReal) := fun k => by
        rw [exp2_sub (s k) (hs k) M', hv, ← EReal.coe_mul]
        refine congrArg _ ?_
        ring
      rw [hA, Finset.sum_congr rfl fun k _ => e k, ← coe_sum, ← EReal.coe_add, ← Finset.mul_sum, ← mul_add]
  rcases ht with ⟨rfl, rfl, rfl⟩ | ⟨M, rfl⟩
  · refine key T ?_ ?_ ?_
    · rw [hT]; exact max_eq_right bot_le
    · rw [mul_zero, mul_zero]; rfl
    · intro d; rw [mul_zero, mul_zero]; rfl
  · refine key (max M T) ?_ (rescale _ _ _) (fun d => rescale _ _ _)
    rw [hT]; exact (EReal.coe_strictMono.monotone.map_max).symm

/-- The quotient of two scaled sums is the quotient of the sums. -/
theorem div_scaled (M A L : ℝ) (hL : 0 < L) :
    Ideal.div ((Real.rpow 2 (-M) * A : ℝ) : EReal) ((Real.rpow 2 (-M) * L : ℝ) : EReal) = ((A / L : ℝ) : EReal) := by
  have hp : 0 < Real.rpow 2 (-M) := Real.rpow_pos_of_pos (by norm_num) _
  unfold Ideal.div
  rw [if_neg (by
    intro e
    have := EReal.coe_eq_zero.mp e
    exact absurd this (mul_pos hp hL).ne')]
  rw [← EReal.coe_inv, ← EReal.coe_mul]
  refine congrArg _ ?_
  field_simp

/-! ## The softmax at once -/

/-- The weight of a score in base two is its exponential once it is scaled by the logarithm of two. -/
theorem exp_scaled (s : EReal) (h : s ≠ ⊤) (M : ℝ) :
    Ideal.exp (s * ((Real.log 2 : ℝ) : EReal) - (M : EReal)) = ((Real.exp (-M) * wt s : ℝ) : EReal) := by
  have hl : 0 < Real.log 2 := Real.log_pos (by norm_num)
  induction s with
  | bot =>
    rw [EReal.bot_mul_coe_of_pos hl, EReal.bot_sub, wt_bot, mul_zero]
    rfl
  | top => exact absurd rfl h
  | coe r =>
    rw [wt_coe, ← EReal.coe_mul, ← EReal.coe_sub]
    show ((Real.exp (r * Real.log 2 - M) : ℝ) : EReal) = _
    refine congrArg _ ?_
    show _ = Real.exp (-M) * (2 : ℝ) ^ r
    rw [Real.rpow_def_of_pos (by norm_num), ← Real.exp_add]
    congr 1; ring

theorem div_exp (M A L : ℝ) (hL : 0 < L) :
    Ideal.div ((Real.exp (-M) * A : ℝ) : EReal) ((Real.exp (-M) * L : ℝ) : EReal) = ((A / L : ℝ) : EReal) := by
  have hp : 0 < Real.exp (-M) := Real.exp_pos _
  unfold Ideal.div
  rw [if_neg (by
    intro e
    have := EReal.coe_eq_zero.mp e
    exact absurd this (mul_pos hp hL).ne')]
  rw [← EReal.coe_inv, ← EReal.coe_mul]
  refine congrArg _ ?_
  field_simp

/-- The softmax of masked scores scaled by the logarithm of two: each weight over their sum. -/
theorem soft (s u : Fin 8192 → EReal) (hs : ∀ k, s k ≠ ⊤) (h : ∃ k, s k ≠ ⊥)
    (hu : ∀ k, u k = s k * ((Real.log 2 : ℝ) : EReal)) (k : Fin 8192) :
    Ideal.div (Ideal.exp (u k - Finset.univ.sup u)) (∑ j, Ideal.exp (u j - Finset.univ.sup u))
      = ((wt (s k) / ∑ j, wt (s j) : ℝ) : EReal) := by
  have hl : 0 < Real.log 2 := Real.log_pos (by norm_num)
  have hb : ∀ k, s k ≠ ⊥ → ∃ r : ℝ, s k = (r : EReal) := fun k hk => ⟨(s k).toReal, (EReal.coe_toReal (hs k) hk).symm⟩
  have hut : ∀ k, u k ≠ ⊤ := fun k => by
    rw [hu]
    by_cases hk : s k = ⊥
    · rw [hk, EReal.bot_mul_coe_of_pos hl]; exact bot_ne_top
    · obtain ⟨r, hr⟩ := hb k hk
      rw [hr, ← EReal.coe_mul]; exact EReal.coe_ne_top _
  have h1 : Finset.univ.sup u ≠ ⊤ := by
    have : Finset.univ.sup u < ⊤ := (Finset.sup_lt_iff (by simp)).mpr fun k _ => lt_top_iff_ne_top.mpr (hut k)
    exact this.ne
  obtain ⟨k0, hk0⟩ := h
  have h2 : Finset.univ.sup u ≠ ⊥ := by
    intro e
    have hle : u k0 ≤ Finset.univ.sup u := Finset.le_sup (f := u) (Finset.mem_univ k0)
    obtain ⟨r, hr⟩ := hb k0 hk0
    rw [e, hu, hr, ← EReal.coe_mul] at hle
    exact EReal.coe_ne_bot _ (le_bot_iff.mp hle)
  obtain ⟨M, hM⟩ : ∃ M : ℝ, Finset.univ.sup u = (M : EReal) := ⟨_, (EReal.coe_toReal h1 h2).symm⟩
  rw [hM]
  have e : ∀ j, Ideal.exp (u j - (M : EReal)) = ((Real.exp (-M) * wt (s j) : ℝ) : EReal) := fun j => by
    rw [hu, exp_scaled (s j) (hs j) M]
  rw [e, Finset.sum_congr rfl fun j _ => e j, ← coe_sum, ← Finset.mul_sum]
  refine div_exp M _ _ ?_
  refine Finset.sum_pos' (fun j _ => wt_nonneg _ (hs j)) ⟨k0, Finset.mem_univ _, ?_⟩
  obtain ⟨r, hr⟩ := hb k0 hk0
  rw [hr]; exact wt_pos r

/-- The difference of two weighted sums of the values, each over its own weights' sum. -/
theorem att_sum (x w0 w1 : Fin 8192 → ℝ) (L0 L1 lam : ℝ) :
    ∑ k, (x k : EReal) * ((((w0 k / L0 : ℝ) : EReal)) - (lam : EReal) * ((w1 k / L1 : ℝ) : EReal))
      = (((∑ k, x k * w0 k) / L0 - lam * ((∑ k, x k * w1 k) / L1) : ℝ) : EReal) := by
  have e : ∀ k, (x k : EReal) * ((((w0 k / L0 : ℝ) : EReal)) - (lam : EReal) * ((w1 k / L1 : ℝ) : EReal))
      = ((x k * w0 k / L0 - lam * (x k * w1 k / L1) : ℝ) : EReal) := fun k => by
    rw [← EReal.coe_mul, ← EReal.coe_sub, ← EReal.coe_mul]
    refine congrArg _ ?_
    ring
  rw [Finset.sum_congr rfl fun k _ => e k, ← coe_sum, Finset.sum_sub_distrib, ← Finset.mul_sum, Finset.sum_div, Finset.sum_div]

end Cert.Proof.Diff

end

end
-- ==== Proof.DiffRef.lean ====
/- The reference's attention, read at one place of its result. -/
module

public import proofs.«01_k».proof.Proof.DiffNorm
public import proofs.«01_k».proof.Proof.DiffSoft
public import proofs.«01_k».proof.Proof.Gen.ReferenceIdeal.Read
public import Idealize.ShloMosaic.Lib.KernelVsHost

@[expose] public section

set_option maxRecDepth 16384

noncomputable section

namespace Cert.Proof.Diff

open Idealize.ShloMosaic Idealize.ShloMosaic.TcCoe Idealize.ShloMosaic.ValueIdx
open Cert.ReferenceIdeal Cert.ReferenceIdeal.Gen Cert.ReferenceIdeal.Read
open scoped BigOperators

/-- Token `g` of sequence `b`, as a row. -/
def tok (b : Fin 2) (g : Fin 8192) : Fin 16384 := ⟨b.val * 8192 + g.val, by have := b.isLt; have := g.isLt; omega⟩

/-- Place `d` of map `mp` of head `h`, as a column. -/
def chan (h : Fin 4) (mp : Fin 2) (d : Fin 64) : Fin 512 :=
  ⟨h.val * 128 + mp.val * 64 + d.val, by have := h.isLt; have := mp.isLt; have := d.isLt; omega⟩

/-- Place `d` of head `h`, as a column. -/
def place (h : Fin 4) (d : Fin 128) : Fin 512 := ⟨h.val * 128 + d.val, by have := h.isLt; have := d.isLt; omega⟩

/-- Place `d` of head `h` among the values. -/
def vplace (h : Fin 4) (d : Fin 128) : Fin 7168 := ⟨3584 + h.val * 128 + d.val, by have := h.isLt; have := d.isLt; omega⟩

/-- A query's score against a key, none where the key's group of 64 is after the query's. -/
def score (x0 x1 : S16384x512.Idx → EReal) (b : Fin 2) (h : Fin 4) (mp : Fin 2) (g j : Fin 8192) : EReal :=
  if j.val / 64 ≤ g.val / 64 then ∑ d : Fin 64, x0 (ix2 (tok b g) (chan h mp d)) * x1 (ix2 (tok b j) (chan h mp d)) else ⊥

/-- The score in natural units. -/
def nscore (x0 x1 : S16384x512.Idx → EReal) (b : Fin 2) (h : Fin 4) (mp : Fin 2) (g j : Fin 8192) : EReal :=
  if j.val / 64 ≤ g.val / 64 then
    (∑ d : Fin 64, x0 (ix2 (tok b g) (chan h mp d)) * x1 (ix2 (tok b j) (chan h mp d))) * ((Real.log 2 : ℝ) : EReal) else ⊥

/-- The softmax's probability of a key. -/
def prob (u : Fin 8192 → EReal) (j : Fin 8192) : EReal :=
  Ideal.div (Ideal.exp (u j - Finset.univ.sup u)) (∑ k, Ideal.exp (u k - Finset.univ.sup u))

/-- The reference's difference of averages. -/
def oRef (x0 x1 : S16384x512.Idx → EReal) (x2 : S16384x7168.Idx → EReal) (x3 : S4x64.Idx → EReal) (b : Fin 2) (h : Fin 4) (g : Fin 8192)
    (d : Fin 128) : EReal :=
  ∑ j : Fin 8192, x2 (ix2 (tok b j) (vplace h d))
    * (prob (nscore x0 x1 b h 0 g) j - lamOf x3 * prob (nscore x0 x1 b h 1 g) j)

/-! ## The mask -/

/-- The sign of one word. -/
def sgnW (x : BitVec 32) : BitVec 32 := if x = 0 then 0 else if x.msb then -1 else 1

/-- The group of 64 of one word, as the reference finds it. -/
def grpR (x : BitVec 32) : BitVec 32 :=
  Scalar.select
    (IntOp.andi (IntOp.cmpi .ne (sgnW x) (sgnW 64#32)) (IntOp.cmpi .ne (IntOp.remsi .host x 64#32) 0#32))
    (IntOp.subi (IntOp.divsi .host x 64#32) 1#32) (IntOp.divsi .host x 64#32)

theorem grpR_small : ∀ a : Fin 8192, grpR (BitVec.ofNat 32 a.val) = BitVec.ofNat 32 (a.val / 64) := by decide +kernel

theorem sle_word : ∀ a b : Fin 128, IntOp.cmpi .sle (BitVec.ofNat 32 a.val) (BitVec.ofNat 32 b.val) = if a.val ≤ b.val then 1#1 else 0#1 := by
  decide +kernel

theorem v24_apply (g : Fin 8192) : val_main_v24 (F := Ideal) (ix1 g) = BitVec.ofNat 32 (g.val / 64) := by
  rw [← grpR_small g]
  rw [val_main_v24_apply, val_main_call0_v11_apply, val_main_call0_v6_apply, val_main_call0_v10_apply, val_main_call0_v13_apply,
    val_main_call0_v2_apply, val_main_call0_v8_apply, val_main_call0_v5_apply, val_main_call0_v1_apply, val_main_call0_v7_apply,
    val_main_call0_v9_apply, val_main_call0_v12_apply]
  rfl

theorem v29_apply (g j : Fin 8192) : val_main_v29 (F := Ideal) (ix2 g j) = if j.val / 64 ≤ g.val / 64 then 1#1 else 0#1 := by
  have hg := g.isLt
  have hj := j.isLt
  rw [val_main_v29_apply, val_main_v27_apply, val_main_v28_apply, val_main_v25_apply, val_main_v26_apply]
  have e1 : val_main_v24 (F := Ideal) (idx_main_v25 (idx_main_v27 (ix2 g j))) = BitVec.ofNat 32 (j.val / 64) := by
    rw [← v24_apply j]; exact congrArg _ (funext fun a => match a with | ⟨0, _⟩ => rfl)
  have e2 : val_main_v24 (F := Ideal) (idx_main_v26 (idx_main_v28 (ix2 g j))) = BitVec.ofNat 32 (g.val / 64) := by
    rw [← v24_apply g]; exact congrArg _ (funext fun a => match a with | ⟨0, _⟩ => rfl)
  rw [e1, e2]
  exact sle_word ⟨j.val / 64, by omega⟩ ⟨g.val / 64, by omega⟩

/-! ## The softmax -/

theorem log_two (i : S_.Idx) : val_main_v32 (F := Ideal) i = ((Real.log 2 : ℝ) : EReal) := by
  rw [val_main_v32_apply, val_main_v31_apply, val_main_cst_2_apply]
  have e : (FloatOps.ofBits (F := Ideal) .f32 0x40000000#32 : EReal) = ((2 : ℝ) : EReal) := by
    show Ideal.ofBits .f32 0x40000000#32 = _
    simp [Ideal.ofBits, Ideal.ieee]
    rw [← EReal.coe_mul]
    norm_num
  rw [e]
  show Ideal.log ((2 : ℝ) : EReal) = _
  show (if (2 : ℝ) ≤ 0 then (⊥ : EReal) else ((Real.log 2 : ℝ) : EReal)) = _
  rw [if_neg (by norm_num)]

theorem ninf (i : S_.Idx) : val_main_call1_v0 (F := Ideal) i = ⊥ := by
  show Ideal.ofBits .f32 0xFF800000#32 = ⊥
  simp [Ideal.ofBits, Ideal.ieee]

variable (x0 x1 : FVec Ideal S16384x512 .bf16) (x2 : FVec Ideal S16384x7168 .bf16) (x3 : FVec Ideal S4x64 .f32) (x4 : FVec Ideal S128 .f32)
variable (b : Fin 2) (h : Fin 4)

/-- An index of the scores. -/
def sidx (b : Fin 2) (h : Fin 4) (mp : Fin 2) (g j : Fin 8192) : S2x4x2x8192x8192.Idx := fun a => match a with
  | ⟨0, _⟩ => b
  | ⟨1, _⟩ => h
  | ⟨2, _⟩ => mp
  | ⟨3, _⟩ => g
  | ⟨4, _⟩ => j

/-- An index of the scores' rows. -/
def ridx (b : Fin 2) (h : Fin 4) (mp : Fin 2) (g : Fin 8192) : S2x4x2x8192.Idx := fun a => match a with
  | ⟨0, _⟩ => b
  | ⟨1, _⟩ => h
  | ⟨2, _⟩ => mp
  | ⟨3, _⟩ => g

theorem v30_apply (mp : Fin 2) (g j : Fin 8192) : val_main_v30 (F := Ideal) x0 x1 (sidx b h mp g j)
    = ∑ d : Fin 64, x0 (ix2 (tok b g) (chan h mp d)) * x1 (ix2 (tok b j) (chan h mp d)) := by
  rw [val_main_v30_apply]
  refine Finset.sum_congr rfl fun d _ => ?_
  have hb := b.isLt; have hh := h.isLt; have hm := mp.isLt; have hg := g.isLt; have hj := j.isLt; have hd := d.isLt
  rw [val_main_v1_apply, val_main_v3_apply, val_main_v0_apply, val_main_v2_apply]
  refine congrArg₂ (fun a c : EReal => a * c) (congrArg x0 (Shape.idx_ext₂ ?_ ?_)) (congrArg x1 (Shape.idx_ext₂ ?_ ?_))
  · show ((((b.val * 8192 + g.val) * 4 + h.val) * 2 + mp.val) * 64 + d.val) / 512 = b.val * 8192 + g.val; omega
  · show ((((b.val * 8192 + g.val) * 4 + h.val) * 2 + mp.val) * 64 + d.val) % 512 = h.val * 128 + mp.val * 64 + d.val; omega
  · show ((((b.val * 8192 + j.val) * 4 + h.val) * 2 + mp.val) * 64 + d.val) / 512 = b.val * 8192 + j.val; omega
  · show ((((b.val * 8192 + j.val) * 4 + h.val) * 2 + mp.val) * 64 + d.val) % 512 = h.val * 128 + mp.val * 64 + d.val; omega

theorem v35_apply (mp : Fin 2) (g j : Fin 8192) : val_main_v35 (F := Ideal) x0 x1 (sidx b h mp g j) = nscore x0 x1 b h mp g j := by
  rw [val_main_v35_apply, val_main_call1_v1_apply, val_main_call1_v2_apply, ninf, val_main_v34_apply, val_main_v33_apply, log_two, v30_apply]
  have e : val_main_v29 (F := Ideal) (idx_main_call1_v1 (sidx b h mp g j)) = if j.val / 64 ≤ g.val / 64 then 1#1 else 0#1 := by
    rw [← v29_apply]; exact congrArg _ (funext fun a => match a with | ⟨0, _⟩ => rfl | ⟨1, _⟩ => rfl)
  rw [e]
  unfold nscore
  by_cases hc : j.val / 64 ≤ g.val / 64
  · rw [if_pos hc, if_pos hc]; rfl
  · rw [if_neg hc, if_neg hc]; rfl

theorem reduces_keys : S2x4x2x8192x8192.Reduces [4] S2x4x2x8192 := by decide

theorem max_keys (x : FVec Ideal S2x4x2x8192x8192 .f32) :
    Host.reduce (t := S2x4x2x8192) FloatOps.maximumf x (constant S_ .f32 0xFF800000#32) reducesTo_S2x4x2x8192x8192_S2x4x2x8192_d4 h_S_
      = multiReduction .maximumf [4] S2x4x2x8192 x 0xFF800000#32 reduces_keys (.inl rfl) rfl :=
  hostReduce_maximumf_eq_multiReduction x _ _ _ _ _ _

theorem v36_apply (mp : Fin 2) (g : Fin 8192) :
    val_main_v36 (F := Ideal) x0 x1 (ridx b h mp g) = Finset.univ.sup (nscore x0 x1 b h mp g) := by
  unfold val_main_v36 val_main_cst_4
  rw [max_keys]
  refine (Ideal.multiReduction_maximumf_single _ _ _ _ _ _).trans ?_
  have e : (FloatOps.ofBits (F := Ideal) .f32 0xFF800000#32 : EReal) = ⊥ := by
    show Ideal.ofBits .f32 0xFF800000#32 = ⊥
    simp [Ideal.ofBits, Ideal.ieee]
  rw [e]
  unfold Finset.sup
  refine congrArg (fun f => Finset.univ.fold max ⊥ f) (funext fun (k : Fin 8192) => ?_)
  rw [← v35_apply x0 x1 b h mp g k]
  refine congrArg (val_main_v35 (F := Ideal) x0 x1) ?_
  funext a; apply Fin.ext
  match a with
  | ⟨0, _⟩ => rfl
  | ⟨1, _⟩ => rfl
  | ⟨2, _⟩ => rfl
  | ⟨3, _⟩ => rfl
  | ⟨4, _⟩ => rfl

theorem v40_apply (mp : Fin 2) (g j : Fin 8192) : val_main_v40 (F := Ideal) x0 x1 (sidx b h mp g j)
    = Ideal.exp (nscore x0 x1 b h mp g j - Finset.univ.sup (nscore x0 x1 b h mp g)) := by
  rw [val_main_v40_apply, val_main_v39_apply, val_main_v38_apply, val_main_v37_apply, v35_apply]
  have e : val_main_v36 (F := Ideal) x0 x1 (idx_main_v37 (idx_main_v38 (sidx b h mp g j))) = Finset.univ.sup (nscore x0 x1 b h mp g) := by
    rw [← v36_apply]
    exact congrArg _ (funext fun a => match a with | ⟨0, _⟩ => rfl | ⟨1, _⟩ => rfl | ⟨2, _⟩ => rfl | ⟨3, _⟩ => rfl)
  rw [e]
  rfl

theorem v44_apply (mp : Fin 2) (g j : Fin 8192) : val_main_v44 (F := Ideal) x0 x1 (sidx b h mp g j) = prob (nscore x0 x1 b h mp g) j := by
  rw [val_main_v44_apply, val_main_v43_apply, val_main_v42_apply, val_main_v41_apply, val_main_cst_5_apply, v40_apply]
  have e : ∀ k : Fin 8192, idx_main_v41 (idx_main_v42 (idx_main_v43 (sidx b h mp g j))) k = sidx b h mp g k := fun k =>
    funext fun a => match a with | ⟨0, _⟩ => rfl | ⟨1, _⟩ => rfl | ⟨2, _⟩ => rfl | ⟨3, _⟩ => rfl | ⟨4, _⟩ => rfl
  rw [Finset.sum_congr rfl fun k _ => (congrArg _ (e k)).trans (v40_apply x0 x1 b h mp g k)]
  have z : (FloatOps.ofBits (F := Ideal) .f32 0x00000000#32 : EReal) = 0 := Ideal.ofBits_zero_f32
  rw [z, zero_add]
  rfl

/-! ## The factor of the second map -/

theorem vec_sum (f : S64.Idx → EReal) : ∑ j : S64.Idx, f j = ∑ d : Fin 64, f (ix1 d) :=
  (Fintype.sum_equiv ⟨fun d : Fin 64 => (ix1 d : S64.Idx), fun j => j 0, fun _ => rfl,
    fun j => funext fun a => match a with | ⟨0, _⟩ => rfl⟩ _ _ fun _ => rfl).symm

theorem lam_apply (i : S_.Idx) : val_main_v22 (F := Ideal) x3 i = lamOf x3 := by
  rw [val_main_v22_apply, val_main_v21_apply, val_main_v13_apply, val_main_v20_apply, val_main_v12_apply, val_main_v19_apply,
    val_main_cst_apply, val_main_cst_0_apply, val_main_cst_1_apply, vec_sum, vec_sum]
  have z : (FloatOps.ofBits (F := Ideal) .f32 0x00000000#32 : EReal) = 0 := Ideal.ofBits_zero_f32
  rw [z, zero_add, zero_add]
  have e0 : ∀ d : Fin 64, val_main_v11 (F := Ideal) x3 (ix1 d) = x3 (ix2 0 d) * x3 (ix2 1 d) := fun d => by
    rw [val_main_v11_apply, val_main_v8_apply, val_main_v10_apply, val_main_v7_apply, val_main_v9_apply]
    refine congrArg₂ (fun a c : EReal => a * c) (congrArg x3 (Shape.idx_ext₂ ?_ ?_)) (congrArg x3 (Shape.idx_ext₂ ?_ ?_))
    · rfl
    · show d.val % 64 = d.val; have := d.isLt; omega
    · rfl
    · show d.val % 64 = d.val; have := d.isLt; omega
  have e1 : ∀ d : Fin 64, val_main_v18 (F := Ideal) x3 (ix1 d) = x3 (ix2 2 d) * x3 (ix2 3 d) := fun d => by
    rw [val_main_v18_apply, val_main_v15_apply, val_main_v17_apply, val_main_v14_apply, val_main_v16_apply]
    refine congrArg₂ (fun a c : EReal => a * c) (congrArg x3 (Shape.idx_ext₂ ?_ ?_)) (congrArg x3 (Shape.idx_ext₂ ?_ ?_))
    · rfl
    · show d.val % 64 = d.val; have := d.isLt; omega
    · rfl
    · show d.val % 64 = d.val; have := d.isLt; omega
  rw [Finset.sum_congr rfl fun d _ => e0 d, Finset.sum_congr rfl fun d _ => e1 d]
  rfl

/-! ## The averages and the norm -/

/-- An index of the averages. -/
def oidx (b : Fin 2) (h : Fin 4) (g : Fin 8192) (d : Fin 128) : S2x8192x4x128.Idx := fun a => match a with
  | ⟨0, _⟩ => b
  | ⟨1, _⟩ => g
  | ⟨2, _⟩ => h
  | ⟨3, _⟩ => d

theorem v53_apply (g : Fin 8192) (d : Fin 128) : val_main_v53 (F := Ideal) x0 x1 x2 x3 (oidx b h g d) = oRef x0 x1 x2 x3 b h g d := by
  rw [val_main_v53_apply, val_main_v52_apply]
  unfold oRef
  refine Finset.sum_congr rfl fun j _ => ?_
  have hb := b.isLt; have hh := h.isLt; have hj := j.isLt; have hd := d.isLt
  refine congrArg₂ (fun a c : EReal => a * c) ?_ ?_
  · rw [val_main_v6_apply, val_main_v5_apply, val_main_v4_apply]
    refine congrArg x2 (Shape.idx_ext₂ ?_ ?_)
    · show (((b.val * 8192 + j.val) * 4 + h.val) * 128 + d.val) / 512 = b.val * 8192 + j.val; omega
    · show 3584 + (((b.val * 8192 + j.val) * 4 + h.val) * 128 + d.val) % 512 = 3584 + h.val * 128 + d.val; omega
  · rw [val_main_v51_apply, val_main_v50_apply, val_main_v49_apply, lam_apply, val_main_v46_apply, val_main_v48_apply,
      val_main_v45_apply, val_main_v47_apply, ← v44_apply, ← v44_apply]
    refine congrArg₂ (fun a c : EReal => a - lamOf x3 * c) (congrArg _ (funext fun a => Fin.ext ?_)) (congrArg _ (funext fun a => Fin.ext ?_))
    · have hg := g.isLt
      match a with
      | ⟨0, _⟩ => show (((b.val * 4 + h.val) * 8192 + g.val) * 8192 + j.val) / 268435456 = b.val; omega
      | ⟨1, _⟩ => show (((b.val * 4 + h.val) * 8192 + g.val) * 8192 + j.val) / 67108864 % 4 = h.val; omega
      | ⟨2, _⟩ => rfl
      | ⟨3, _⟩ => show (((b.val * 4 + h.val) * 8192 + g.val) * 8192 + j.val) / 8192 % 8192 = g.val; omega
      | ⟨4, _⟩ => show (((b.val * 4 + h.val) * 8192 + g.val) * 8192 + j.val) % 8192 = j.val; omega
    · have hg := g.isLt
      match a with
      | ⟨0, _⟩ => show (((b.val * 4 + h.val) * 8192 + g.val) * 8192 + j.val) / 268435456 = b.val; omega
      | ⟨1, _⟩ => show (((b.val * 4 + h.val) * 8192 + g.val) * 8192 + j.val) / 67108864 % 4 = h.val; omega
      | ⟨2, _⟩ => rfl
      | ⟨3, _⟩ => show (((b.val * 4 + h.val) * 8192 + g.val) * 8192 + j.val) / 8192 % 8192 = g.val; omega
      | ⟨4, _⟩ => show (((b.val * 4 + h.val) * 8192 + g.val) * 8192 + j.val) % 8192 = j.val; omega

theorem v68_apply (g : Fin 8192) (d : Fin 128) : val_main_v68 (F := Ideal) x0 x1 x2 x3 x4 (oidx b h g d)
    = normed (oRef x0 x1 x2 x3 b h g) (fun e => x4 (ix1 e)) d := by
  rw [val_main_v68_apply, val_main_v66_apply, val_main_v63_apply, val_main_v62_apply, val_main_v61_apply, val_main_v60_apply,
    val_main_v58_apply, val_main_v56_apply, val_main_v55_apply, val_main_v57_apply, val_main_v59_apply, val_main_v65_apply,
    val_main_v64_apply, val_main_v67_apply, val_main_cst_6_apply, val_main_cst_7_apply, val_main_cst_8_apply, val_main_cst_9_apply, v53_apply]
  have e : ∀ k : Fin 128, val_main_v54 (F := Ideal) x0 x1 x2 x3 (idx_main_v55 (idx_main_v56 (idx_main_v62 (oidx b h g d))) k)
      = oRef x0 x1 x2 x3 b h g k * oRef x0 x1 x2 x3 b h g k := fun k => by
    rw [val_main_v54_apply, ← v53_apply]
    have hi : idx_main_v55 (idx_main_v56 (idx_main_v62 (oidx b h g d))) k = oidx b h g k :=
      funext fun a => match a with | ⟨0, _⟩ => rfl | ⟨1, _⟩ => rfl | ⟨2, _⟩ => rfl | ⟨3, _⟩ => rfl
    rw [hi]
    rfl
  rw [Finset.sum_congr rfl fun k _ => e k]
  have z : (FloatOps.ofBits (F := Ideal) .f32 0x00000000#32 : EReal) = 0 := Ideal.ofBits_zero_f32
  rw [z, zero_add]
  have hg : x4 (idx_main_v64 (idx_main_v65 (oidx b h g d))) = x4 (ix1 d) :=
    congrArg x4 (funext fun a => match a with | ⟨0, _⟩ => rfl)
  rw [hg]
  rfl

/-- The reference's result at a token and a place of a head. -/
theorem ref_apply (g : Fin 8192) (d : Fin 128) : val_main_v70 (F := Ideal) x0 x1 x2 x3 x4 (ix2 (tok b g) (place h d))
    = normed (oRef x0 x1 x2 x3 b h g) (fun e => x4 (ix1 e)) d := by
  rw [val_main_v70_apply, val_main_v69_apply, ← v68_apply]
  have hb := b.isLt; have hh := h.isLt; have hg := g.isLt; have hd := d.isLt
  have e : idx_main_v69 (ix2 (tok b g) (place h d)) = oidx b h g d := funext fun a => Fin.ext (by
    match a with
    | ⟨0, _⟩ => show ((b.val * 8192 + g.val) * 512 + (h.val * 128 + d.val)) / 4194304 = b.val; omega
    | ⟨1, _⟩ => show ((b.val * 8192 + g.val) * 512 + (h.val * 128 + d.val)) / 512 % 8192 = g.val; omega
    | ⟨2, _⟩ => show ((b.val * 8192 + g.val) * 512 + (h.val * 128 + d.val)) / 128 % 4 = h.val; omega
    | ⟨3, _⟩ => show ((b.val * 8192 + g.val) * 512 + (h.val * 128 + d.val)) % 128 = d.val; omega)
  rw [e]
  rfl

end Cert.Proof.Diff

end
-- ==== Proof.DiffSum.lean ====
/- The online softmax over a query's blocks gives the reference's difference of averages. -/
module

public import proofs.«01_k».proof.Proof.DiffTrip
public import proofs.«01_k».proof.Proof.DiffRef

@[expose] public section

noncomputable section

namespace Cert.Proof.Diff

open Idealize.ShloMosaic Idealize.ShloMosaic.TcCoe Idealize.ShloMosaic.ValueIdx
open Cert.KernelIdeal
open scoped BigOperators

/-! ## Sums by halves and by blocks -/

/-- A sum over 128 lanes of which one half is zero is the sum over the other. -/
theorem half_sum (f : Fin 128 → EReal) (mp : Fin 2) :
    ∑ d : Fin 128, (if d.val / 64 = mp.val then f d else 0)
      = ∑ d : Fin 64, f ⟨mp.val * 64 + d.val, by have := mp.isLt; have := d.isLt; omega⟩ := by
  refine (Fin.sum_univ_add (a := 64) (b := 64) fun d : Fin 128 => if d.val / 64 = mp.val then f d else 0).trans ?_
  have h0 : ∀ d : Fin 64, (Fin.castAdd 64 d).val / 64 = 0 := fun d => by
    show d.val / 64 = 0; have := d.isLt; omega
  have h1 : ∀ d : Fin 64, (Fin.natAdd 64 d).val / 64 = 1 := fun d => by
    show (64 + d.val) / 64 = 1; have := d.isLt; omega
  match mp with
  | ⟨0, _⟩ =>
    rw [Finset.sum_congr rfl fun d _ => if_pos (h0 d), Finset.sum_congr rfl fun d _ => if_neg (by rw [h1]; exact one_ne_zero),
      Finset.sum_const_zero, add_zero]
    refine Finset.sum_congr rfl fun d _ => congrArg f (Fin.ext ?_)
    show d.val = 0 * 64 + d.val; omega
  | ⟨1, _⟩ =>
    rw [Finset.sum_congr rfl fun d _ => if_neg (by rw [h0]; exact zero_ne_one), Finset.sum_congr rfl fun d _ => if_pos (h1 d),
      Finset.sum_const_zero, zero_add]
    refine Finset.sum_congr rfl fun d _ => congrArg f (Fin.ext ?_)
    show 64 + d.val = 1 * 64 + d.val; omega

/-- Key `k` of block `n`. -/
def key (n : ℕ) (k : Fin 1024) : Fin 8192 := ⟨1024 * (n % 8) + k.val, by have := k.isLt; omega⟩

/-- A sum over the keys is a sum over the blocks. -/
theorem keys_sum (f : Fin 8192 → ℝ) : ∑ n ∈ Finset.range 8, ∑ k : Fin 1024, f (key n k) = ∑ j, f j := by
  rw [Finset.sum_range]
  refine Eq.trans ?_ (Equiv.sum_comp (finProdFinEquiv (m := 8) (n := 1024)) f)
  rw [Fintype.sum_prod_type]
  refine Finset.sum_congr rfl fun n _ => Finset.sum_congr rfl fun k _ => congrArg f (Fin.ext ?_)
  show 1024 * (n.val % 8) + k.val = k.val + 1024 * n.val
  have := n.isLt; omega

variable (x0 x1 : ReferenceIdeal.S16384x512.Idx → EReal) (x2 : ReferenceIdeal.S16384x7168.Idx → EReal)
variable (b : Fin 2) (h : Fin 4)

/-! ## The scores -/

theorem dot_real (h0 : ∀ i, ∃ r : ℝ, x0 i = (r : EReal)) (h1 : ∀ i, ∃ r : ℝ, x1 i = (r : EReal)) (mp : Fin 2) (g j : Fin 8192) :
    ∃ r : ℝ, ∑ d : Fin 64, x0 (ix2 (tok b g) (chan h mp d)) * x1 (ix2 (tok b j) (chan h mp d)) = (r : EReal) := by
  choose y0 e0 using h0
  choose y1 e1 using h1
  refine ⟨∑ d : Fin 64, y0 (ix2 (tok b g) (chan h mp d)) * y1 (ix2 (tok b j) (chan h mp d)), ?_⟩
  rw [coe_sum]
  refine Finset.sum_congr rfl fun d _ => ?_
  rw [e0, e1, EReal.coe_mul]

theorem score_seen (h0 : ∀ i, ∃ r : ℝ, x0 i = (r : EReal)) (h1 : ∀ i, ∃ r : ℝ, x1 i = (r : EReal)) (mp : Fin 2) (g j : Fin 8192)
    (hj : j.val / 64 ≤ g.val / 64) : ∃ r : ℝ, score x0 x1 b h mp g j = (r : EReal) := by
  unfold score
  rw [if_pos hj]
  exact dot_real x0 x1 b h h0 h1 mp g j

theorem score_masked (mp : Fin 2) (g j : Fin 8192) (hj : ¬ j.val / 64 ≤ g.val / 64) : score x0 x1 b h mp g j = ⊥ := by
  unfold score
  rw [if_neg hj]

theorem score_ne_top (h0 : ∀ i, ∃ r : ℝ, x0 i = (r : EReal)) (h1 : ∀ i, ∃ r : ℝ, x1 i = (r : EReal)) (mp : Fin 2) (g j : Fin 8192) :
    score x0 x1 b h mp g j ≠ ⊤ := by
  by_cases hj : j.val / 64 ≤ g.val / 64
  · obtain ⟨r, hr⟩ := score_seen x0 x1 b h h0 h1 mp g j hj
    rw [hr]; exact EReal.coe_ne_top r
  · rw [score_masked x0 x1 b h mp g j hj]; exact bot_ne_top

theorem nscore_eq (mp : Fin 2) (g j : Fin 8192) : nscore x0 x1 b h mp g j = score x0 x1 b h mp g j * ((Real.log 2 : ℝ) : EReal) := by
  unfold nscore score
  by_cases hj : j.val / 64 ≤ g.val / 64
  · rw [if_pos hj, if_pos hj]
  · rw [if_neg hj, if_neg hj, EReal.bot_mul_coe_of_pos (Real.log_pos (by norm_num))]

/-- The sum of a query's weights. -/
def wsum (mp : Fin 2) (g : Fin 8192) : ℝ := ∑ j, wt (score x0 x1 b h mp g j)

theorem wsum_pos (h0 : ∀ i, ∃ r : ℝ, x0 i = (r : EReal)) (h1 : ∀ i, ∃ r : ℝ, x1 i = (r : EReal)) (mp : Fin 2) (g : Fin 8192) :
    0 < wsum x0 x1 b h mp g := by
  refine Finset.sum_pos' (fun j _ => wt_nonneg _ (score_ne_top x0 x1 b h h0 h1 mp g j)) ⟨g, Finset.mem_univ _, ?_⟩
  obtain ⟨r, hr⟩ := score_seen x0 x1 b h h0 h1 mp g g le_rfl
  rw [hr]; exact wt_pos r

/-! ## The blocks -/

/-- Query `q` of block `qi`. -/
def qry (qi : Fin 8) (q : Fin 1024) : Fin 8192 := ⟨1024 * qi.val + q.val, by have := qi.isLt; have := q.isLt; omega⟩

variable (K : S8192x128.Idx → EReal) (V : S8x128x1024.Idx → EReal) (v5 v9 : S1024x128.Idx → EReal) (qi : Fin 8)

/-- A block's scores are the reference's, where all of them are seen. -/
theorem sAt_eq (hK : ∀ j d, K (ix2 j d) = x1 (ix2 (tok b j) (place h d)))
    (hQ : ∀ (mp : Fin 2) q (d : Fin 128), (if mp = 0 then v5 else v9) (ix2 q d)
      = if d.val / 64 = mp.val then x0 (ix2 (tok b (qry qi q)) (place h d)) else 0)
    (mp : Fin 2) (q : Fin 1024) (n : ℕ) (k : Fin 1024) :
    sAt K v5 v9 mp q n k
      = ∑ d : Fin 64, x0 (ix2 (tok b (qry qi q)) (chan h mp d)) * x1 (ix2 (tok b (key n k)) (chan h mp d)) := by
  unfold sAt
  have e : ∀ d : Fin 128, K (ix2 (key n k) d) * (if mp = 0 then v5 else v9) (ix2 q d)
      = if d.val / 64 = mp.val then x0 (ix2 (tok b (qry qi q)) (place h d)) * x1 (ix2 (tok b (key n k)) (place h d)) else 0 := fun d => by
    rw [hK, hQ]
    by_cases hd : d.val / 64 = mp.val
    · rw [if_pos hd, if_pos hd, mul_comm]
    · rw [if_neg hd, if_neg hd, mul_zero]
  refine (Finset.sum_congr rfl fun d _ => e d).trans ((half_sum _ mp).trans ?_)
  refine Finset.sum_congr rfl fun d _ => ?_
  have hp : place h ⟨mp.val * 64 + d.val, by have := mp.isLt; have := d.isLt; omega⟩ = chan h mp d := Fin.ext (by
    show h.val * 128 + (mp.val * 64 + d.val) = h.val * 128 + mp.val * 64 + d.val; omega)
  rw [hp]

/-- Before the diagonal every key is seen, and on it those of the mask. -/
theorem score_before (hs : ∀ (mp : Fin 2) (q : Fin 1024) (n : ℕ) (k : Fin 1024), sAt K v5 v9 mp q n k
      = ∑ d : Fin 64, x0 (ix2 (tok b (qry qi q)) (chan h mp d)) * x1 (ix2 (tok b (key n k)) (chan h mp d)))
    (mp : Fin 2) (q : Fin 1024) (n : ℕ) (hn : n < qi.val) (k : Fin 1024) : sAt K v5 v9 mp q n k = score x0 x1 b h mp (qry qi q) (key n k) := by
  rw [hs]
  unfold score
  rw [if_pos]
  show (1024 * (n % 8) + k.val) / 64 ≤ (1024 * qi.val + q.val) / 64
  have := k.isLt; have := qi.isLt; omega

theorem score_diag (hs : ∀ (mp : Fin 2) (q : Fin 1024) (n : ℕ) (k : Fin 1024), sAt K v5 v9 mp q n k
      = ∑ d : Fin 64, x0 (ix2 (tok b (qry qi q)) (chan h mp d)) * x1 (ix2 (tok b (key n k)) (chan h mp d)))
    (mp : Fin 2) (q : Fin 1024) (k : Fin 1024) :
    (if k.val / 64 ≤ q.val / 64 then sAt K v5 v9 mp q qi.val k else ⊥) = score x0 x1 b h mp (qry qi q) (key qi.val k) := by
  rw [hs]
  unfold score
  have e : (key qi.val k).val / 64 ≤ (qry qi q).val / 64 ↔ k.val / 64 ≤ q.val / 64 := by
    show (1024 * (qi.val % 8) + k.val) / 64 ≤ (1024 * qi.val + q.val) / 64 ↔ _
    have := qi.isLt; omega
  by_cases hk : k.val / 64 ≤ q.val / 64
  · rw [if_pos hk, if_pos (e.mpr hk)]
  · rw [if_neg hk, if_neg fun z => hk (e.mp z)]

/-- The blocks up to the diagonal hold all of a query's weight. -/
theorem sum_upto (mp : Fin 2) (q : Fin 1024) (x : Fin 8192 → ℝ) :
    ∑ n ∈ Finset.range (qi.val + 1), ∑ k : Fin 1024, x (key n k) * wt (score x0 x1 b h mp (qry qi q) (key n k))
      = ∑ j, x j * wt (score x0 x1 b h mp (qry qi q) j) := by
  rw [← keys_sum fun j => x j * wt (score x0 x1 b h mp (qry qi q) j)]
  have hq := qi.isLt
  refine Finset.sum_subset (fun n hn => Finset.mem_range.mpr (by have := Finset.mem_range.mp hn; omega)) fun n hn hn' => ?_
  refine Finset.sum_eq_zero fun k _ => ?_
  have h1 := Finset.mem_range.mp hn
  have h2 : ¬ n < qi.val + 1 := fun z => hn' (Finset.mem_range.mpr z)
  rw [score_masked, wt_bot, mul_zero]
  show ¬ (1024 * (n % 8) + k.val) / 64 ≤ (1024 * qi.val + q.val) / 64
  have := q.isLt; omega

/-- A column's state at its end: the sums of its query's weights, scaled. -/
theorem state_scaled (h0 : ∀ i, ∃ r : ℝ, x0 i = (r : EReal)) (h1 : ∀ i, ∃ r : ℝ, x1 i = (r : EReal))
    (hK : ∀ j d, K (ix2 j d) = x1 (ix2 (tok b j) (place h d)))
    (hQ : ∀ (mp : Fin 2) q (d : Fin 128), (if mp = 0 then v5 else v9) (ix2 q d)
      = if d.val / 64 = mp.val then x0 (ix2 (tok b (qry qi q)) (place h d)) else 0)
    (hV : ∀ n d k, V (ix3 n d k) = x2 (ix2 (tok b (key n.val k)) (vplace h d)))
    (y : Fin 128 → Fin 8192 → ℝ) (hy : ∀ j d, x2 (ix2 (tok b j) (vplace h d)) = (y d j : EReal)) (mp : Fin 2) (q : Fin 1024) :
    Scaled (upd (fun k => if k.val / 64 ≤ q.val / 64 then sAt K v5 v9 mp q qi.val k else ⊥) (vAt V qi.val) (run K V v5 v9 mp q qi.val))
      (wsum x0 x1 b h mp (qry qi q)) (fun d => ∑ j, y d j * wt (score x0 x1 b h mp (qry qi q) j)) := by
  have hs := sAt_eq x0 x1 b h K v5 v9 qi hK hQ
  have hv : ∀ n d k, vAt V n d k = (y d (key n k) : EReal) := fun n d k => by
    unfold vAt
    rw [hV, ← hy]
    refine congrArg (fun j => x2 (ix2 (tok b j) (vplace h d))) (Fin.ext ?_)
    show 1024 * (n % 8 % 8) + k.val = 1024 * (n % 8) + k.val
    omega
  have seen0 : ∀ n, n ≤ qi.val → ∃ k : Fin 1024, score x0 x1 b h mp (qry qi q) (key n k) ≠ ⊥ := fun n hn => by
    refine ⟨0, ?_⟩
    obtain ⟨r, hr⟩ := score_seen x0 x1 b h h0 h1 mp (qry qi q) (key n 0) (by
      show (1024 * (n % 8) + 0) / 64 ≤ (1024 * qi.val + q.val) / 64
      have := qi.isLt; omega)
    rw [hr]; exact EReal.coe_ne_bot r
  have step : ∀ n, n ≤ qi.val → Holds (run K V v5 v9 mp q n)
      (∑ m ∈ Finset.range n, ∑ k : Fin 1024, wt (score x0 x1 b h mp (qry qi q) (key m k)))
      (fun d => ∑ m ∈ Finset.range n, ∑ k : Fin 1024, y d (key m k) * wt (score x0 x1 b h mp (qry qi q) (key m k))) := by
    intro n
    induction n with
    | zero => exact fun _ => .inl ⟨rfl, Finset.sum_range_zero _, funext fun d => Finset.sum_range_zero _⟩
    | succ n ih =>
      intro hn
      right
      have e : sAt K v5 v9 mp q n = fun k => score x0 x1 b h mp (qry qi q) (key n k) :=
        funext fun k => score_before x0 x1 b h K v5 v9 qi hs mp q n (by omega) k
      have := upd_scaled _ _ _ (ih (by omega)) (fun k => score x0 x1 b h mp (qry qi q) (key n k))
        (fun k => score_ne_top x0 x1 b h h0 h1 mp _ _) (seen0 n (by omega)) (vAt V n) (fun d k => y d (key n k)) (hv n)
      unfold run
      rw [e, Finset.sum_range_succ]
      simp only [Finset.sum_range_succ]
      exact this
  have e : (fun k : Fin 1024 => if k.val / 64 ≤ q.val / 64 then sAt K v5 v9 mp q qi.val k else ⊥)
      = fun k => score x0 x1 b h mp (qry qi q) (key qi.val k) := funext fun k => score_diag x0 x1 b h K v5 v9 qi hs mp q k
  rw [e]
  have := upd_scaled _ _ _ (step qi.val le_rfl) (fun k => score x0 x1 b h mp (qry qi q) (key qi.val k))
    (fun k => score_ne_top x0 x1 b h h0 h1 mp _ _) (seen0 qi.val le_rfl) (vAt V qi.val) (fun d k => y d (key qi.val k)) (hv qi.val)
  rw [← Finset.sum_range_succ] at this
  simp only [← Finset.sum_range_succ] at this
  have eL : ∑ n ∈ Finset.range (qi.val + 1), ∑ k : Fin 1024, wt (score x0 x1 b h mp (qry qi q) (key n k)) = wsum x0 x1 b h mp (qry qi q) := by
    have := sum_upto x0 x1 b h qi mp q fun _ => 1
    simp only [one_mul] at this
    exact this
  have eA : (fun d => ∑ n ∈ Finset.range (qi.val + 1), ∑ k : Fin 1024, y d (key n k) * wt (score x0 x1 b h mp (qry qi q) (key n k)))
      = fun d => ∑ j, y d j * wt (score x0 x1 b h mp (qry qi q) j) := funext fun d => sum_upto x0 x1 b h qi mp q (y d)
  rw [eL, eA] at this
  exact this

/-- A column's average. -/
theorem avg_eq {t : Col} {L : ℝ} {A : Fin 128 → ℝ} (ht : Scaled t L A) (hL : 0 < L) (d : Fin 128) :
    Ideal.div (t.2.2 d) t.2.1 = ((A d / L : ℝ) : EReal) := by
  obtain ⟨M, rfl⟩ := ht
  exact div_scaled M (A d) L hL

/-- The difference of a query's two averages is the reference's. -/
theorem o_eq (dl : S4x64.Idx → EReal) (h0 : ∀ i, ∃ r : ℝ, x0 i = (r : EReal)) (h1 : ∀ i, ∃ r : ℝ, x1 i = (r : EReal))
    (h2 : ∀ j d, ∃ r : ℝ, x2 (ix2 (tok b j) (vplace h d)) = (r : EReal)) (hl : ∃ r : ℝ, lamOf dl = (r : EReal))
    (hK : ∀ j d, K (ix2 j d) = x1 (ix2 (tok b j) (place h d)))
    (hQ : ∀ (mp : Fin 2) q (d : Fin 128), (if mp = 0 then v5 else v9) (ix2 q d)
      = if d.val / 64 = mp.val then x0 (ix2 (tok b (qry qi q)) (place h d)) else 0)
    (hV : ∀ n d k, V (ix3 n d k) = x2 (ix2 (tok b (key n.val k)) (vplace h d))) (q : Fin 1024) (d : Fin 128) :
    oAt dl
      (upd (fun k => if k.val / 64 ≤ q.val / 64 then sAt K v5 v9 0 q qi.val k else ⊥) (vAt V qi.val) (run K V v5 v9 0 q qi.val))
      (upd (fun k => if k.val / 64 ≤ q.val / 64 then sAt K v5 v9 1 q qi.val k else ⊥) (vAt V qi.val) (run K V v5 v9 1 q qi.val)) d
      = oRef x0 x1 x2 dl b h (qry qi q) d := by
  choose z hz using h2
  obtain ⟨lam, hlam⟩ := hl
  have s := state_scaled x0 x1 x2 b h K V v5 v9 qi h0 h1 hK hQ hV (fun d j => z j d) (fun j d => hz j d)
  unfold oAt oRef
  rw [avg_eq (s 0 q) (wsum_pos x0 x1 b h h0 h1 0 _), avg_eq (s 1 q) (wsum_pos x0 x1 b h h0 h1 1 _), hlam]
  have p : ∀ (mp : Fin 2) (j : Fin 8192), prob (nscore x0 x1 b h mp (qry qi q)) j
      = ((wt (score x0 x1 b h mp (qry qi q) j) / wsum x0 x1 b h mp (qry qi q) : ℝ) : EReal) := fun mp j => by
    obtain ⟨r, hr⟩ := score_seen x0 x1 b h h0 h1 mp (qry qi q) (qry qi q) le_rfl
    exact soft (score x0 x1 b h mp (qry qi q)) _ (score_ne_top x0 x1 b h h0 h1 mp _) ⟨qry qi q, by rw [hr]; exact EReal.coe_ne_bot r⟩
      (nscore_eq x0 x1 b h mp _) j
  have e : ∀ j : Fin 8192, x2 (ix2 (tok b j) (vplace h d))
      * (prob (nscore x0 x1 b h 0 (qry qi q)) j - (lam : EReal) * prob (nscore x0 x1 b h 1 (qry qi q)) j)
      = (z j d : EReal) * (((wt (score x0 x1 b h 0 (qry qi q) j) / wsum x0 x1 b h 0 (qry qi q) : ℝ) : EReal)
        - (lam : EReal) * ((wt (score x0 x1 b h 1 (qry qi q) j) / wsum x0 x1 b h 1 (qry qi q) : ℝ) : EReal)) := fun j => by
    rw [hz, p, p]
  rw [Finset.sum_congr rfl fun j _ => e j, att_sum, ← EReal.coe_mul, ← EReal.coe_sub]

/-- The factor of the second map is real where the four vectors are. -/
theorem lam_real (dl : S4x64.Idx → EReal) (hd : ∀ i, ∃ r : ℝ, dl i = (r : EReal)) : ∃ r : ℝ, lamOf dl = (r : EReal) := by
  choose y hy using hd
  have e : ∀ n m : Fin 4, Ideal.exp (∑ d : Fin 64, dl (ix2 n d) * dl (ix2 m d))
      = ((Real.exp (∑ d : Fin 64, y (ix2 n d) * y (ix2 m d)) : ℝ) : EReal) := fun n m => by
    have : ∑ d : Fin 64, dl (ix2 n d) * dl (ix2 m d) = ((∑ d : Fin 64, y (ix2 n d) * y (ix2 m d) : ℝ) : EReal) := by
      rw [coe_sum]
      refine Finset.sum_congr rfl fun d _ => ?_
      rw [hy, hy, EReal.coe_mul]
    rw [this]; rfl
  obtain ⟨c, hc⟩ : ∃ c : ℝ, Ideal.ofBits .f32 0x3E4CCCCD#32 = (c : EReal) := by
    simp [Ideal.ofBits, Ideal.ieee]
    exact ⟨_, (EReal.coe_mul _ _).symm⟩
  unfold lamOf
  rw [e, e, hc, ← EReal.coe_sub, ← EReal.coe_add]
  exact ⟨_, rfl⟩

end Cert.Proof.Diff

end

end
-- ==== Proof.DiffPre.lean ====
/- What the precondition says: the queries, the keys, the values and the four vectors are real numbers. -/
module

public import proofs.«01_k».proof.Defs
public import proofs.«01_k».proof.Proof.DiffRef

@[expose] public section

noncomputable section

namespace Cert.Proof.Diff

open Idealize.ShloMosaic Idealize.ShloMosaic.TcCoe Idealize.ShloMosaic.ValueIdx

/-- The side conditions of the precondition's operations. -/
theorem pre_facts : Cert.Pre_finite.Facts where
  bitsLt_bf16_f32 := by decide
  slices_S16384x7168_S16384x512_0_3584 := by decide
  bcast_S_S16384x512 := by decide
  bcast_S_S4x64 := by decide

theorem and_ones : ∀ a b : BitVec 1, IntOp.andi a b = 1#1 → a = 1#1 ∧ b = 1#1 := by decide

theorem pos_inf : Ideal.ofBits .f32 0x7F800000#32 = ⊤ := by
  simp [Ideal.ofBits, Ideal.ieee]

theorem neg_inf : Ideal.ofBits .f32 0xFF800000#32 = ⊥ := by
  simp [Ideal.ofBits, Ideal.ieee]

/-- A number above −∞ and below +∞ is real. -/
theorem real_of_between (x : EReal) (h : IntOp.andi (FloatOps.cmpf (F := Ideal) (φ := .f32) .ogt x (Ideal.ofBits .f32 0xFF800000#32))
    (FloatOps.cmpf (F := Ideal) (φ := .f32) .olt x (Ideal.ofBits .f32 0x7F800000#32)) = 1#1) : ∃ r : ℝ, x = (r : EReal) := by
  obtain ⟨h1, h2⟩ := and_ones _ _ h
  rw [neg_inf] at h1
  rw [pos_inf] at h2
  induction x with
  | bot => exact absurd h1 (by simp [FloatOps.cmpf, Ideal.cmp])
  | top => exact absurd h2 (by simp [FloatOps.cmpf, Ideal.cmp])
  | coe r => exact ⟨r, rfl⟩

open Cert.KernelIdeal in
/-- Of memories the precondition holds of, the four arguments it names. -/
theorem pre_real (m : (ℓ : Loc nD τ sig) → Buf (Elt Ideal) ℓ) (hm : Cert.Pre_KernelIdeal_finite (hPre_finite := pre_facts) m) (c : Dev nD) :
    (∀ i : S16384x512.Idx, ∃ r : ℝ, (m ((c.tc : Thread nD τ).loc main_arg0) i : EReal) = (r : EReal))
    ∧ (∀ i : S16384x512.Idx, ∃ r : ℝ, (m ((c.tc : Thread nD τ).loc main_arg1) i : EReal) = (r : EReal))
    ∧ (∀ (h : Fin 4) (j : Fin 16384) (d : Fin 128), ∃ r : ℝ, (m ((c.tc : Thread nD τ).loc main_arg2) (ix2 j (vplace h d)) : EReal) = (r : EReal))
    ∧ (∀ i : S4x64.Idx, ∃ r : ℝ, (m ((c.tc : Thread nD τ).loc main_arg3) i : EReal) = (r : EReal)) := by
  obtain ⟨p0, p1, p2, p3⟩ := hm c
  refine ⟨fun i => real_of_between _ (congrFun p0 i), fun i => real_of_between _ (congrFun p1 i), fun h j d => ?_,
    fun i => real_of_between _ (congrFun p3 i)⟩
  obtain ⟨r, hr⟩ := real_of_between _ (congrFun p2 (ix2 j (place h d)))
  have e : ∀ (x : FVec Ideal S16384x7168 .bf16) (hs : S16384x7168.Slices ![0, 3584] S16384x512),
      extractStridedSlice S16384x512 ![0, 3584] x hs (ix2 j (place h d)) = x (ix2 j (vplace h d)) := fun x hs =>
    extractStridedSlice_apply ![0, 3584] x hs (ix2 j (place h d)) (ix2 j (vplace h d)) (fun a => match a with
      | ⟨0, _⟩ => by show j.val = 0 + j.val; omega
      | ⟨1, _⟩ => by show 3584 + h.val * 128 + d.val = 3584 + (h.val * 128 + d.val); omega)
  exact ⟨r, (e _ (by decide)).symm.trans hr⟩

end Cert.Proof.Diff

end

end
-- ==== Proof.Diff.lean ====
/- The value of the differential attention: each block of the result is that block of the reference's. -/
module

public import proofs.«01_k».proof.Proof.DiffOut
public import proofs.«01_k».proof.Proof.DiffSum
public import proofs.«01_k».proof.Proof.DiffPre
public import proofs.«01_k».proof.Proof.Gen.KernelIdeal.Value
public import proofs.«01_k».proof.Proof.Gen.ReferenceIdeal.Run

@[expose] public section

set_option maxRecDepth 16384

noncomputable section

namespace Cert.Proof.Diff

open Idealize.ShloMosaic Idealize.ShloMosaic.TcCoe Idealize.SL.Sem Idealize.ShloMosaic.ValueIdx
open Cert.KernelIdeal Cert.KernelIdeal.Gen Cert.KernelIdeal.Value
open scoped BigOperators

variable (m : (ℓ : Loc nD τ sig) → Buf (Elt Ideal) ℓ)

/-- The windows that move take the sequence, the head and, for the queries and the result, the block of queries. -/
theorem idx_win : ∀ t : Fin cfg0.N,
    win0_0.index t = ![t.val / 32 * 8 + t.val % 8, t.val / 8 % 4] ∧ win0_1.index t = ![t.val / 32, t.val / 8 % 4]
    ∧ win0_2.index t = ![t.val / 32, t.val / 8 % 4, 0] ∧ win0_3.index t = ![0, 0] ∧ win0_4.index t = ![0, 0]
    ∧ win0_5.index t = ![t.val / 32 * 8 + t.val % 8, t.val / 8 % 4] ∧ ((grid0.coords t) 2).val = t.val % 8 :=
  (by decide +kernel : ∀ t : Fin grid0.N, _)

theorem pts (t : Fin cfg0.N) : t.val < 64 := lt_of_lt_of_eq t.isLt (show cfg0.N = 64 from N_0)

/-- A point's sequence. -/
def seqOf (t : Fin cfg0.N) : Fin 2 := ⟨t.val / 32, by have := pts t; omega⟩
/-- A point's head. -/
def headOf (t : Fin cfg0.N) : Fin 4 := ⟨t.val / 8 % 4, by omega⟩
/-- A point's block of queries. -/
def blockOf (t : Fin cfg0.N) : Fin 8 := ⟨t.val % 8, by omega⟩

/-! ## The host's two buffers -/

theorem V_v2 (c : Dev nD) : V m c main_v2 = transpose S16x512x1024 [0, 2, 1]
    (shapeCast S16x1024x512 (extractStridedSlice S16384x512 ![0, 3584] (m ((c : Thread nD τ).loc main_arg2)) slices_S16384x7168_S16384x512_0_3584)
      shapeCasts_S16384x512_S16x1024x512) transposes_S16x1024x512_S16x512x1024_0_2_1 := by
  show StableHlo.after hostOps0 _ _ = _
  after_results
  rfl

theorem V_v3 (c : Dev nD) : V m c main_v3 = shapeCast S128x1 (m ((c : Thread nD τ).loc main_arg4)) shapeCasts_S128_S128x1 := by
  show StableHlo.after hostOps0 _ _ = _
  after_results
  rfl

/-! ## The blocks at a point, entry by entry -/

section Blocks
variable (c : Dev nD) (t : Fin cfg0.N)

theorem blk0 (q : Fin 1024) (d : Fin 128) :
    iblk m c 0 t (ix2 q d) = m ((c : Thread nD τ).loc main_arg0) (ix2 (tok (seqOf t) (qry (blockOf t) q)) (place (headOf t) d)) := by
  show V m c main_arg0 ((win0_0.rect t).idx (ix2 q d)) = _
  rw [V_main_arg0]
  refine congrArg _ (Shape.idx_ext₂ ?_ ?_)
  · show win0_0.index t (0 : Fin 2) * 1024 + 1 * q.val = t.val / 32 * 8192 + (1024 * (t.val % 8) + q.val)
    rw [(idx_win t).1]; show (t.val / 32 * 8 + t.val % 8) * 1024 + 1 * q.val = _; omega
  · show win0_0.index t (1 : Fin 2) * 128 + 1 * d.val = t.val / 8 % 4 * 128 + d.val
    rw [(idx_win t).1]; show t.val / 8 % 4 * 128 + 1 * d.val = _; omega

theorem blk1 (j : Fin 8192) (d : Fin 128) :
    iblk m c 1 t (ix2 j d) = m ((c : Thread nD τ).loc main_arg1) (ix2 (tok (seqOf t) j) (place (headOf t) d)) := by
  show V m c main_arg1 ((win0_1.rect t).idx (ix2 j d)) = _
  rw [V_main_arg1]
  refine congrArg _ (Shape.idx_ext₂ ?_ ?_)
  · show win0_1.index t (0 : Fin 2) * 8192 + 1 * j.val = t.val / 32 * 8192 + j.val
    rw [(idx_win t).2.1]; show t.val / 32 * 8192 + 1 * j.val = _; omega
  · show win0_1.index t (1 : Fin 2) * 128 + 1 * d.val = t.val / 8 % 4 * 128 + d.val
    rw [(idx_win t).2.1]; show t.val / 8 % 4 * 128 + 1 * d.val = _; omega

/-- The values, turned by the host, read at an entry. -/
theorem vals_apply (x : FVec Ideal S16384x7168 .bf16) (y : S16x512x1024.Idx) (r : Fin 16384) (e : Fin 7168)
    (hr : r.val = (y 0).val * 1024 + (y 2).val) (he : e.val = 3584 + (y 1).val) :
    transpose S16x512x1024 [0, 2, 1] (shapeCast S16x1024x512 (extractStridedSlice S16384x512 ![0, 3584] x slices_S16384x7168_S16384x512_0_3584)
      shapeCasts_S16384x512_S16x1024x512) transposes_S16x1024x512_S16x512x1024_0_2_1 y = x (ix2 r e) := by
  have h1 : (y 1).val < 512 := (y 1).isLt
  refine (transpose_apply _ _ transposes_S16x1024x512_S16x512x1024_0_2_1 y (ix3 (y 0) (y 2) (y 1)) (fun b => match b with
    | ⟨0, _⟩ => rfl | ⟨1, _⟩ => rfl | ⟨2, _⟩ => rfl)).trans ?_
  refine (shapeCast_apply _ shapeCasts_S16384x512_S16x1024x512 (ix3 (y 0) (y 2) (y 1)) (ix2 r ⟨(y 1).val, h1⟩) (by
    rw [Shape.rowMajor_val_two, Shape.rowMajor_val_three]
    show r.val * 512 + (y 1).val = ((y 0).val * 1024 + (y 2).val) * 512 + (y 1).val
    rw [hr])).trans ?_
  exact extractStridedSlice_apply _ x slices_S16384x7168_S16384x512_0_3584 (ix2 r ⟨(y 1).val, h1⟩) (ix2 r e) (fun a => match a with
    | ⟨0, _⟩ => by show r.val = 0 + r.val; omega
    | ⟨1, _⟩ => he)

theorem blk2 (n : Fin 8) (d : Fin 128) (k : Fin 1024) :
    iblk m c 2 t (ix3 n d k) = m ((c : Thread nD τ).loc main_arg2) (ix2 (tok (seqOf t) (key n.val k)) (vplace (headOf t) d)) := by
  have hn := n.isLt
  show V m c main_v2 ((win0_2.rect t).idx (ix3 n d k)) = _
  rw [V_v2]
  refine vals_apply _ _ _ _ ?_ ?_
  · show t.val / 32 * 8192 + (1024 * (n.val % 8) + k.val)
      = (win0_2.index t (0 : Fin 3) * 8 + 1 * n.val) * 1024 + (win0_2.index t (2 : Fin 3) * 1024 + 1 * k.val)
    rw [(idx_win t).2.2.1]
    show _ = (t.val / 32 * 8 + 1 * n.val) * 1024 + (0 * 1024 + 1 * k.val)
    omega
  · show 3584 + t.val / 8 % 4 * 128 + d.val = 3584 + (win0_2.index t (1 : Fin 3) * 128 + 1 * d.val)
    rw [(idx_win t).2.2.1]
    show _ = 3584 + (t.val / 8 % 4 * 128 + 1 * d.val)
    omega

theorem blk3 : (iblk m c 3 t : Vec Ideal S4x64 .f32) = m ((c : Thread nD τ).loc main_arg3) := by
  funext y
  obtain ⟨n, d, rfl⟩ : ∃ (n : Fin 4) (d : Fin 64), y = ix2 n d := ⟨y 0, y 1, eq_ix2 y⟩
  show V m c main_arg3 ((win0_3.rect t).idx (ix2 n d)) = _
  rw [V_main_arg3]
  refine congrArg _ (Shape.idx_ext₂ ?_ ?_)
  · show win0_3.index t (0 : Fin 2) * 4 + 1 * n.val = n.val
    rw [(idx_win t).2.2.2.1]; show 0 * 4 + 1 * n.val = _; omega
  · show win0_3.index t (1 : Fin 2) * 64 + 1 * d.val = d.val
    rw [(idx_win t).2.2.2.1]; show 0 * 64 + 1 * d.val = _; omega

theorem blk4 (e : Fin 128) : iblk m c 4 t (ix2 e 0) = m ((c : Thread nD τ).loc main_arg4) (ix1 e) := by
  show V m c main_v3 ((win0_4.rect t).idx (ix2 e 0)) = _
  rw [V_v3]
  refine shapeCast_apply _ shapeCasts_S128_S128x1 _ (ix1 e) ?_
  rw [Shape.rowMajor_val_two, Shape.rowMajor_val_one]
  show e.val = (win0_4.index t (0 : Fin 2) * 128 + 1 * e.val) * 1 + (win0_4.index t (1 : Fin 2) * 1 + 1 * 0)
  rw [(idx_win t).2.2.2.2.1]
  show e.val = (0 * 128 + 1 * e.val) * 1 + (0 * 1 + 1 * 0)
  omega

end Blocks

/-- The reference's result, from the kernel's arguments. -/
def want (c : Dev nD) : FVec Ideal S16384x512 .bf16 :=
  Cert.ReferenceIdeal.Read.val_main_v70 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- What a point's states come to is the reference's result there. -/
theorem point (hm : Cert.Pre_KernelIdeal_finite (hPre_finite := pre_facts) m) (c : Dev nD) (t : Fin cfg0.N)
    (arg3 : Memref sig .tc .vmem S1024x128 .bf16) (harg3 : arg3.IsWhole) (q : Fin 1024) (d : Fin 128) :
    normed (oAt (iblk m c 3 t)
        (fin (grid0.coords t) (q5 arg3 harg3 (iblk m c 0 t)) (q9 arg3 harg3 (iblk m c 0 t)) (iblk m c 1 t) (iblk m c 2 t) 0 q)
        (fin (grid0.coords t) (q5 arg3 harg3 (iblk m c 0 t)) (q9 arg3 harg3 (iblk m c 0 t)) (iblk m c 1 t) (iblk m c 2 t) 1 q))
      (fun e => iblk m c 4 t (ix2 e 0)) d
      = want m c (ix2 (tok (seqOf t) (qry (blockOf t) q)) (place (headOf t) d)) := by
  obtain ⟨r0, r1, r2, r3⟩ := pre_real m hm c
  have hi : ((grid0.coords t) 2).val = (blockOf t).val := (idx_win t).2.2.2.2.2.2
  unfold want
  rw [ref_apply]
  refine congrArg₂ (fun o g => normed o g d) (funext fun e => ?_) (funext fun e => blk4 m c t e)
  unfold fin
  rw [hi, blk3 m c t]
  refine o_eq (m ((c : Thread nD τ).loc main_arg0)) (m ((c : Thread nD τ).loc main_arg1)) (m ((c : Thread nD τ).loc main_arg2)) (seqOf t) (headOf t)
    (iblk m c 1 t) (iblk m c 2 t) (q5 arg3 harg3 (iblk m c 0 t)) (q9 arg3 harg3 (iblk m c 0 t)) (blockOf t)
    (m ((c : Thread nD τ).loc main_arg3)) r0 r1 (fun j d => r2 _ _ _) (lam_real _ r3) (fun j d => blk1 m c t j d) (fun mp q d => ?_)
    (fun n d k => blk2 m c t n d k) q e
  rw [half_apply, blk0]

/-- What a grid point writes back is its block of the reference's result. -/
theorem flushed5_eq (hm : Cert.Pre_KernelIdeal_finite (hPre_finite := pre_facts) m) (c : Dev nD) (t : Fin cfg0.N)
    (_ : (cfg0.win 5).flush t = true) : (dats m 0 c).flushed 5 t = ((cfg0.win 5).blk t).view.read (Elt Ideal) (want m c) := by
  have place_eq : ∀ (q : Fin 1024) (d : Fin 128), want m c (ix2 (tok (seqOf t) (qry (blockOf t) q)) (place (headOf t) d))
      = ((cfg0.win 5).blk t).view.read (Elt Ideal) (want m c) (ix2 q d) := fun q d => by
    refine congrArg (want m c) (Shape.idx_ext₂ ?_ ?_)
    · show t.val / 32 * 8192 + (1024 * (t.val % 8) + q.val) = win0_5.index t (0 : Fin 2) * 1024 + 1 * q.val
      rw [(idx_win t).2.2.2.2.2.1]; show _ = (t.val / 32 * 8 + t.val % 8) * 1024 + 1 * q.val; omega
    · show t.val / 8 % 4 * 128 + d.val = win0_5.index t (1 : Fin 2) * 128 + 1 * d.val
      rw [(idx_win t).2.2.2.2.2.1]; show _ = t.val / 8 % 4 * 128 + 1 * d.val; omega
  by_cases h0 : t.val % 2 = 1
  · rw [flushed5_B m c t h0 (by omega)]
    funext y
    obtain ⟨q, d, rfl⟩ : ∃ (q : Fin 1024) (d : Fin 128), y = ix2 q d := ⟨y 0, y 1, eq_ix2 y⟩
    refine Eq.trans ?_ (place_eq q d)
    refine Eq.trans ?_ (point m hm c t (ms0_0 t) (hs0_0 t) q d)
    exact out_B c (grid0.coords t) _ _ _ _ _ _ _ _ _ _ _ _ _ _ _ _ _ _ _ _ _ _ _ _ _ q d
  · rw [flushed5_A m c t h0 (by omega)]
    funext y
    obtain ⟨q, d, rfl⟩ : ∃ (q : Fin 1024) (d : Fin 128), y = ix2 q d := ⟨y 0, y 1, eq_ix2 y⟩
    refine Eq.trans ?_ (place_eq q d)
    refine Eq.trans ?_ (point m hm c t (ms0_0 t) (hs0_0 t) q d)
    exact out_A c (grid0.coords t) _ _ _ _ _ _ _ _ _ _ _ _ _ _ _ _ _ _ _ _ _ _ _ _ _ q d

/-- The indices of a block of the result. -/
theorem mem_blk5 (t : Fin cfg0.N) (i : S16384x512.Idx) :
    i ∈ ((cfg0.win 5).blk t).view.set ↔ ∀ a : Fin 2, win0_5.index t a * S1024x128.size a ≤ (i a).val
      ∧ (i a).val < win0_5.index t a * S1024x128.size a + S1024x128.size a := by
  show i ∈ ((View.whole main_v4).slice (win0_5.rect t)).set ↔ _
  rw [View.set_slice_whole, Rect.mem_set_unit]; exact Iff.rfl

/-- The point whose block an index lies in. -/
def pt (i : S16384x512.Idx) : Fin cfg0.N :=
  ⟨(i 0).val / 8192 * 32 + (i 1).val / 128 * 8 + (i 0).val / 1024 % 8, by
    have := idx2_lt0 i; have := idx2_lt1 i; show _ < 64; omega⟩

theorem cover5 (i : S16384x512.Idx) : ∃ t : Fin cfg0.N, (cfg0.win 5).flush t = true ∧ i ∈ ((cfg0.win 5).blk t).view.set := by
  refine ⟨pt i, flush0_5 _, ?_⟩
  rw [mem_blk5, (idx_win _).2.2.2.2.2.1]
  intro a
  have h0 := idx2_lt0 i
  have h1 := idx2_lt1 i
  have hp : (pt i).val = (i 0).val / 8192 * 32 + (i 1).val / 128 * 8 + (i 0).val / 1024 % 8 := rfl
  match a with
  | ⟨0, _⟩ =>
    show ((pt i).val / 32 * 8 + (pt i).val % 8) * 1024 ≤ (i 0).val ∧ (i 0).val < ((pt i).val / 32 * 8 + (pt i).val % 8) * 1024 + 1024
    rw [hp]; omega
  | ⟨1, _⟩ =>
    show (pt i).val / 8 % 4 * 128 ≤ (i 1).val ∧ (i 1).val < (pt i).val / 8 % 4 * 128 + 128
    rw [hp]; omega

/-- After the run the result is the reference's. -/
theorem final5 (hm : Cert.Pre_KernelIdeal_finite (hPre_finite := pre_facts) m) (c : Dev nD) : (dats m 0 c).arrAt 5 cfg0.N = want m c :=
  (dats m 0 c).arrAt_eq_of_cover 5 _ (flushed5_eq m hm c) cover5

/-- The kernel and the reference end with the same result, their arguments unchanged. -/
theorem algebraic : Cert.algebraic_KernelIdeal_ReferenceIdeal_pre_finite (hPre_finite := pre_facts) := fun m g m' g' hm hagree =>
  ⟨fun c => want m c,
    (θ_run _ _ _).mono (fun r h c => ⟨(h c).1.trans (final5 m hm c), (h c).2⟩) (run_blocks m g),
    (θ_run _ _ _).mono (fun r h c => ⟨by
        have e := (h c).1.trans (Cert.ReferenceIdeal.Read.val_main_v70_eq _ _)
        obtain ⟨a0, a1, a2, a3, a4⟩ := hagree c
        rw [a0, a1, a2, a3, a4] at e
        exact e, (h c).2⟩) (Cert.ReferenceIdeal.Value.run m' g')⟩

end Cert.Proof.Diff

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.ReferenceInIdeal
public import proofs.«01_k».proof.Proof.Gen.KernelMerge
public import proofs.«01_k».proof.Proof.Gen.KernelMerge.Skeleton
public import proofs.«01_k».proof.Proof.Gen.KernelMerge.Launch
public import proofs.«01_k».proof.Proof.Gen.KernelMerge.Points
public import proofs.«01_k».proof.Proof.Gen.KernelMerge.Frame
public import proofs.«01_k».proof.Proof.Gen.KernelMergeIdeal
public import proofs.«01_k».proof.Proof.Gen.KernelMergeIdeal.Skeleton
public import proofs.«01_k».proof.Proof.Gen.KernelMergeIdeal.Launch
public import proofs.«01_k».proof.Proof.Gen.KernelMergeIdeal.Points
public import proofs.«01_k».proof.Proof.Gen.KernelMergeIdeal.Frame
public import proofs.«01_k».proof.Proof.Gen.ReferenceMergeIdeal
public import proofs.«01_k».proof.Proof.Gen.ReferenceIdeal.Run
public import proofs.«01_k».proof.Proof.Gen.ReferenceIdeal.Read
public import proofs.«01_k».proof.Proof.Gen.ReferenceInIdeal.Run
public import proofs.«01_k».proof.Proof.Gen.ReferenceInIdeal.Read
public import proofs.«01_k».proof.Proof.Gen.ReferenceMergeIdeal.Run
public import proofs.«01_k».proof.Proof.Gen.ReferenceMergeIdeal.Read
public import proofs.«01_k».proof.Proof.Gen.KernelInIdeal.Value
public import proofs.«01_k».proof.Proof.Gen.KernelMergeIdeal.Value
public import proofs.«01_k».proof.Proof.Gen.KernelIdeal.Value
public import proofs.«01_k».proof.Proof.InProj
public import proofs.«01_k».proof.Proof.Merge
public import proofs.«01_k».proof.Proof.Diff
public import Idealize.ShloMosaic.Adequacy
public import Idealize.ShloMosaic.Init

@[expose] public section

noncomputable section

namespace Cert.Proof

open Idealize.ShloMosaic Idealize.SL.Sem Cert.Kernel

/-- The reference of the differential attention runs, its arguments unchanged; it has no counter. -/
theorem frame_r : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference of the input projection runs, its arguments unchanged; it has no counter. -/
theorem frame_rIn : Cert.quiescent_ReferenceInIdeal := fun m ρ _ =>
  (θ_run Cert.ReferenceInIdeal.defs _ _).mono (fun r h => ⟨fun c => (h c).2, sem_eq_zero_of_no_sems (by decide) r.2⟩)
    (Cert.ReferenceInIdeal.Value.run (F := Ideal) m ρ)

/-- The reference of the merge runs, its arguments unchanged; it has no counter. -/
theorem frame_rMerge : Cert.quiescent_ReferenceMergeIdeal := fun m ρ _ =>
  (θ_run Cert.ReferenceMergeIdeal.defs _ _).mono (fun r h => ⟨fun c => (h c).2.2, sem_eq_zero_of_no_sems (by decide) r.2⟩)
    (Cert.ReferenceMergeIdeal.Value.run (F := Ideal) m ρ)

/-- The mask the differential attention fills in reads as minus infinity, the value the idealized program names. -/
theorem mask : Cert.preserves_Kernel_KernelIdeal :=
  IdealRules.named_const.statement Cert.KernelIdeal.κ "mask" .f32 0xF149F2CA#32 ⊥ rfl

theorem claim : Cert.Claim := ⟨Cert.Kernel.Gen.facts, Cert.KernelIdeal.Gen.facts, Cert.ReferenceIdeal.Gen.facts, Cert.KernelIn.Gen.facts, Cert.KernelInIdeal.Gen.facts, Cert.ReferenceInIdeal.Gen.facts, Cert.KernelMerge.Gen.facts, Cert.KernelMergeIdeal.Gen.facts, Cert.ReferenceMergeIdeal.Gen.facts, Diff.pre_facts,
  fun m ρ _ => Cert.Kernel.Gen.frame m ρ, fun m ρ _ => Cert.KernelIdeal.Gen.frame m ρ, fun m ρ _ => Cert.KernelIdeal.Gen.frame m ρ,
  frame_r, fun m ρ _ => frame_r m ρ trivial,
  fun m ρ _ => Cert.KernelIn.Gen.frame m ρ, fun m ρ _ => Cert.KernelInIdeal.Gen.frame m ρ, frame_rIn,
  fun m ρ _ => Cert.KernelMerge.Gen.frame m ρ, fun m ρ _ => Cert.KernelMergeIdeal.Gen.frame m ρ, frame_rMerge,
  mask, Diff.algebraic, trivial, InProj.algebraic, trivial, Merge.algebraic⟩

end Cert.Proof

end
